-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S128x8192 : Shape := ⟨2, ![128, 8192]⟩
abbrev S32x128x128 : Shape := ⟨3, ![32, 128, 128]⟩
abbrev S4x128x8192 : Shape := ⟨3, ![4, 128, 8192]⟩
abbrev S8x128 : Shape := ⟨2, ![8, 128]⟩
abbrev S32x8x128 : Shape := ⟨3, ![32, 8, 128]⟩
abbrev S32 : Shape := ⟨1, ![32]⟩
abbrev S4x2 : Shape := ⟨2, ![4, 2]⟩
abbrev S_ : Shape := ⟨0, ![]⟩
abbrev S1 : Shape := ⟨1, ![1]⟩
abbrev S1x128x128 : Shape := ⟨3, ![1, 128, 128]⟩
abbrev S128x128 : Shape := ⟨2, ![128, 128]⟩
abbrev S1x1 : Shape := ⟨2, ![1, 1]⟩
abbrev S1x64x8192 : Shape := ⟨3, ![1, 64, 8192]⟩
abbrev S64x8192 : Shape := ⟨2, ![64, 8192]⟩
abbrev S1x128x8192 : Shape := ⟨3, ![1, 128, 8192]⟩
abbrev S1x1x1 : Shape := ⟨3, ![1, 1, 1]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S4096x128, .bf16⟩
  | .local _ .vmem, ⟨3, _⟩ => ⟨S32x128x128, .bf16⟩
  | .local _ .vmem, ⟨4, _⟩ => ⟨S4x128x8192, .f32⟩
  | .local _ .vmem, ⟨5, _⟩ => ⟨S8x128, .f32⟩
  | .local _ .vmem, ⟨6, _⟩ => ⟨S32x8x128, .f32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let c0_i32_134 : BitVec 32 := 0#32
  ![v2.toNat, 0, 0]
def k0_off3 (d0 : Dev nD) (c1_i32_128 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v134 : BitVec 32 := Scalar.addi v2 c1_i32_128
  let c32_i32_129 : BitVec 32 := 32#32
  let v135 : BitVec 32 := Scalar.remsi v134 c32_i32_129
  let c128_i32 : BitVec 32 := 128#32
  let v136 : BitVec 32 := Scalar.muli v135 c128_i32
  let c0_i32_135 : BitVec 32 := 0#32
  ![v136.toNat, 0]
def k0_dev32 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_128 : BitVec 32 := 1#32
  let v134 : BitVec 32 := Scalar.addi v2 c1_i32_128
  let c32_i32_129 : BitVec 32 := 32#32
  let v135 : BitVec 32 := Scalar.remsi v134 c32_i32_129
  let c1_i32_131 : BitVec 32 := 1#32
  let v137 : BitVec 32 := Scalar.muli v135 c1_i32_131
  let v138 : BitVec 32 := Scalar.addi c0_i32_132 v137
  v138.toNat
def k0_dev33 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_136 : BitVec 32 := 2#32
  let v146 : BitVec 32 := Scalar.addi v2 c2_i32_136
  let c32_i32_137 : BitVec 32 := 32#32
  let v147 : BitVec 32 := Scalar.remsi v146 c32_i32_137
  let c1_i32_140 : BitVec 32 := 1#32
  let v149 : BitVec 32 := Scalar.muli v147 c1_i32_140
  let v150 : BitVec 32 := Scalar.addi c0_i32_141 v149
  v150.toNat
def k0_dev34 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_145 : BitVec 32 := 3#32
  let v158 : BitVec 32 := Scalar.addi v2 c3_i32_145
  let c32_i32_146 : BitVec 32 := 32#32
  let v159 : BitVec 32 := Scalar.remsi v158 c32_i32_146
  let c1_i32_149 : BitVec 32 := 1#32
  let v161 : BitVec 32 := Scalar.muli v159 c1_i32_149
  let v162 : BitVec 32 := Scalar.addi c0_i32_150 v161
  v162.toNat
def k0_dev35 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_154 : BitVec 32 := 4#32
  let v170 : BitVec 32 := Scalar.addi v2 c4_i32_154
  let c32_i32_155 : BitVec 32 := 32#32
  let v171 : BitVec 32 := Scalar.remsi v170 c32_i32_155
  let c1_i32_158 : BitVec 32 := 1#32
  let v173 : BitVec 32 := Scalar.muli v171 c1_i32_158
  let v174 : BitVec 32 := Scalar.addi c0_i32_159 v173
  v174.toNat
def k0_dev36 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_163 : BitVec 32 := 5#32
  let v182 : BitVec 32 := Scalar.addi v2 c5_i32_163
  let c32_i32_164 : BitVec 32 := 32#32
  let v183 : BitVec 32 := Scalar.remsi v182 c32_i32_164
  let c1_i32_167 : BitVec 32 := 1#32
  let v185 : BitVec 32 := Scalar.muli v183 c1_i32_167
  let v186 : BitVec 32 := Scalar.addi c0_i32_168 v185
  v186.toNat
def k0_dev37 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_172 : BitVec 32 := 6#32
  let v194 : BitVec 32 := Scalar.addi v2 c6_i32_172
  let c32_i32_173 : BitVec 32 := 32#32
  let v195 : BitVec 32 := Scalar.remsi v194 c32_i32_173
  let c1_i32_176 : BitVec 32 := 1#32
  let v197 : BitVec 32 := Scalar.muli v195 c1_i32_176
  let v198 : BitVec 32 := Scalar.addi c0_i32_177 v197
  v198.toNat
def k0_dev38 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_181 : BitVec 32 := 7#32
  let v206 : BitVec 32 := Scalar.addi v2 c7_i32_181
  let c32_i32_182 : BitVec 32 := 32#32
  let v207 : BitVec 32 := Scalar.remsi v206 c32_i32_182
  let c1_i32_185 : BitVec 32 := 1#32
  let v209 : BitVec 32 := Scalar.muli v207 c1_i32_185
  let v210 : BitVec 32 := Scalar.addi c0_i32_186 v209
  v210.toNat
def k0_dev39 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_190 : BitVec 32 := 8#32
  let v218 : BitVec 32 := Scalar.addi v2 c8_i32_190
  let c32_i32_191 : BitVec 32 := 32#32
  let v219 : BitVec 32 := Scalar.remsi v218 c32_i32_191
  let c1_i32_194 : BitVec 32 := 1#32
  let v221 : BitVec 32 := Scalar.muli v219 c1_i32_194
  let v222 : BitVec 32 := Scalar.addi c0_i32_195 v221
  v222.toNat
def k0_dev40 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_199 : BitVec 32 := 9#32
  let v230 : BitVec 32 := Scalar.addi v2 c9_i32_199
  let c32_i32_200 : BitVec 32 := 32#32
  let v231 : BitVec 32 := Scalar.remsi v230 c32_i32_200
  let c1_i32_203 : BitVec 32 := 1#32
  let v233 : BitVec 32 := Scalar.muli v231 c1_i32_203
  let v234 : BitVec 32 := Scalar.addi c0_i32_204 v233
  v234.toNat
def k0_dev41 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_208 : BitVec 32 := 10#32
  let v242 : BitVec 32 := Scalar.addi v2 c10_i32_208
  let c32_i32_209 : BitVec 32 := 32#32
  let v243 : BitVec 32 := Scalar.remsi v242 c32_i32_209
  let c1_i32_212 : BitVec 32 := 1#32
  let v245 : BitVec 32 := Scalar.muli v243 c1_i32_212
  let v246 : BitVec 32 := Scalar.addi c0_i32_213 v245
  v246.toNat
def k0_dev42 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_217 : BitVec 32 := 11#32
  let v254 : BitVec 32 := Scalar.addi v2 c11_i32_217
  let c32_i32_218 : BitVec 32 := 32#32
  let v255 : BitVec 32 := Scalar.remsi v254 c32_i32_218
  let c1_i32_221 : BitVec 32 := 1#32
  let v257 : BitVec 32 := Scalar.muli v255 c1_i32_221
  let v258 : BitVec 32 := Scalar.addi c0_i32_222 v257
  v258.toNat
def k0_dev43 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_226 : BitVec 32 := 12#32
  let v266 : BitVec 32 := Scalar.addi v2 c12_i32_226
  let c32_i32_227 : BitVec 32 := 32#32
  let v267 : BitVec 32 := Scalar.remsi v266 c32_i32_227
  let c1_i32_230 : BitVec 32 := 1#32
  let v269 : BitVec 32 := Scalar.muli v267 c1_i32_230
  let v270 : BitVec 32 := Scalar.addi c0_i32_231 v269
  v270.toNat
def k0_dev44 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_235 : BitVec 32 := 13#32
  let v278 : BitVec 32 := Scalar.addi v2 c13_i32_235
  let c32_i32_236 : BitVec 32 := 32#32
  let v279 : BitVec 32 := Scalar.remsi v278 c32_i32_236
  let c1_i32_239 : BitVec 32 := 1#32
  let v281 : BitVec 32 := Scalar.muli v279 c1_i32_239
  let v282 : BitVec 32 := Scalar.addi c0_i32_240 v281
  v282.toNat
def k0_dev45 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_244 : BitVec 32 := 14#32
  let v290 : BitVec 32 := Scalar.addi v2 c14_i32_244
  let c32_i32_245 : BitVec 32 := 32#32
  let v291 : BitVec 32 := Scalar.remsi v290 c32_i32_245
  let c1_i32_248 : BitVec 32 := 1#32
  let v293 : BitVec 32 := Scalar.muli v291 c1_i32_248
  let v294 : BitVec 32 := Scalar.addi c0_i32_249 v293
  v294.toNat
def k0_dev46 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_253 : BitVec 32 := 15#32
  let v302 : BitVec 32 := Scalar.addi v2 c15_i32_253
  let c32_i32_254 : BitVec 32 := 32#32
  let v303 : BitVec 32 := Scalar.remsi v302 c32_i32_254
  let c1_i32_257 : BitVec 32 := 1#32
  let v305 : BitVec 32 := Scalar.muli v303 c1_i32_257
  let v306 : BitVec 32 := Scalar.addi c0_i32_258 v305
  v306.toNat
def k0_dev47 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_262 : BitVec 32 := 16#32
  let v314 : BitVec 32 := Scalar.addi v2 c16_i32_262
  let c32_i32_263 : BitVec 32 := 32#32
  let v315 : BitVec 32 := Scalar.remsi v314 c32_i32_263
  let c1_i32_266 : BitVec 32 := 1#32
  let v317 : BitVec 32 := Scalar.muli v315 c1_i32_266
  let v318 : BitVec 32 := Scalar.addi c0_i32_267 v317
  v318.toNat
def k0_dev48 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_271 : BitVec 32 := 17#32
  let v326 : BitVec 32 := Scalar.addi v2 c17_i32_271
  let c32_i32_272 : BitVec 32 := 32#32
  let v327 : BitVec 32 := Scalar.remsi v326 c32_i32_272
  let c1_i32_275 : BitVec 32 := 1#32
  let v329 : BitVec 32 := Scalar.muli v327 c1_i32_275
  let v330 : BitVec 32 := Scalar.addi c0_i32_276 v329
  v330.toNat
def k0_dev49 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_280 : BitVec 32 := 18#32
  let v338 : BitVec 32 := Scalar.addi v2 c18_i32_280
  let c32_i32_281 : BitVec 32 := 32#32
  let v339 : BitVec 32 := Scalar.remsi v338 c32_i32_281
  let c1_i32_284 : BitVec 32 := 1#32
  let v341 : BitVec 32 := Scalar.muli v339 c1_i32_284
  let v342 : BitVec 32 := Scalar.addi c0_i32_285 v341
  v342.toNat
def k0_dev50 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_289 : BitVec 32 := 19#32
  let v350 : BitVec 32 := Scalar.addi v2 c19_i32_289
  let c32_i32_290 : BitVec 32 := 32#32
  let v351 : BitVec 32 := Scalar.remsi v350 c32_i32_290
  let c1_i32_293 : BitVec 32 := 1#32
  let v353 : BitVec 32 := Scalar.muli v351 c1_i32_293
  let v354 : BitVec 32 := Scalar.addi c0_i32_294 v353
  v354.toNat
def k0_dev51 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_298 : BitVec 32 := 20#32
  let v362 : BitVec 32 := Scalar.addi v2 c20_i32_298
  let c32_i32_299 : BitVec 32 := 32#32
  let v363 : BitVec 32 := Scalar.remsi v362 c32_i32_299
  let c1_i32_302 : BitVec 32 := 1#32
  let v365 : BitVec 32 := Scalar.muli v363 c1_i32_302
  let v366 : BitVec 32 := Scalar.addi c0_i32_303 v365
  v366.toNat
def k0_dev52 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_307 : BitVec 32 := 21#32
  let v374 : BitVec 32 := Scalar.addi v2 c21_i32_307
  let c32_i32_308 : BitVec 32 := 32#32
  let v375 : BitVec 32 := Scalar.remsi v374 c32_i32_308
  let c1_i32_311 : BitVec 32 := 1#32
  let v377 : BitVec 32 := Scalar.muli v375 c1_i32_311
  let v378 : BitVec 32 := Scalar.addi c0_i32_312 v377
  v378.toNat
def k0_dev53 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_316 : BitVec 32 := 22#32
  let v386 : BitVec 32 := Scalar.addi v2 c22_i32_316
  let c32_i32_317 : BitVec 32 := 32#32
  let v387 : BitVec 32 := Scalar.remsi v386 c32_i32_317
  let c1_i32_320 : BitVec 32 := 1#32
  let v389 : BitVec 32 := Scalar.muli v387 c1_i32_320
  let v390 : BitVec 32 := Scalar.addi c0_i32_321 v389
  v390.toNat
def k0_dev54 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_325 : BitVec 32 := 23#32
  let v398 : BitVec 32 := Scalar.addi v2 c23_i32_325
  let c32_i32_326 : BitVec 32 := 32#32
  let v399 : BitVec 32 := Scalar.remsi v398 c32_i32_326
  let c1_i32_329 : BitVec 32 := 1#32
  let v401 : BitVec 32 := Scalar.muli v399 c1_i32_329
  let v402 : BitVec 32 := Scalar.addi c0_i32_330 v401
  v402.toNat
def k0_dev55 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_334 : BitVec 32 := 24#32
  let v410 : BitVec 32 := Scalar.addi v2 c24_i32_334
  let c32_i32_335 : BitVec 32 := 32#32
  let v411 : BitVec 32 := Scalar.remsi v410 c32_i32_335
  let c1_i32_338 : BitVec 32 := 1#32
  let v413 : BitVec 32 := Scalar.muli v411 c1_i32_338
  let v414 : BitVec 32 := Scalar.addi c0_i32_339 v413
  v414.toNat
def k0_dev56 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_343 : BitVec 32 := 25#32
  let v422 : BitVec 32 := Scalar.addi v2 c25_i32_343
  let c32_i32_344 : BitVec 32 := 32#32
  let v423 : BitVec 32 := Scalar.remsi v422 c32_i32_344
  let c1_i32_347 : BitVec 32 := 1#32
  let v425 : BitVec 32 := Scalar.muli v423 c1_i32_347
  let v426 : BitVec 32 := Scalar.addi c0_i32_348 v425
  v426.toNat
def k0_dev57 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_352 : BitVec 32 := 26#32
  let v434 : BitVec 32 := Scalar.addi v2 c26_i32_352
  let c32_i32_353 : BitVec 32 := 32#32
  let v435 : BitVec 32 := Scalar.remsi v434 c32_i32_353
  let c1_i32_356 : BitVec 32 := 1#32
  let v437 : BitVec 32 := Scalar.muli v435 c1_i32_356
  let v438 : BitVec 32 := Scalar.addi c0_i32_357 v437
  v438.toNat
def k0_dev58 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_361 : BitVec 32 := 27#32
  let v446 : BitVec 32 := Scalar.addi v2 c27_i32_361
  let c32_i32_362 : BitVec 32 := 32#32
  let v447 : BitVec 32 := Scalar.remsi v446 c32_i32_362
  let c1_i32_365 : BitVec 32 := 1#32
  let v449 : BitVec 32 := Scalar.muli v447 c1_i32_365
  let v450 : BitVec 32 := Scalar.addi c0_i32_366 v449
  v450.toNat
def k0_dev59 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_370 : BitVec 32 := 28#32
  let v458 : BitVec 32 := Scalar.addi v2 c28_i32_370
  let c32_i32_371 : BitVec 32 := 32#32
  let v459 : BitVec 32 := Scalar.remsi v458 c32_i32_371
  let c1_i32_374 : BitVec 32 := 1#32
  let v461 : BitVec 32 := Scalar.muli v459 c1_i32_374
  let v462 : BitVec 32 := Scalar.addi c0_i32_375 v461
  v462.toNat
def k0_dev60 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_379 : BitVec 32 := 29#32
  let v470 : BitVec 32 := Scalar.addi v2 c29_i32_379
  let c32_i32_380 : BitVec 32 := 32#32
  let v471 : BitVec 32 := Scalar.remsi v470 c32_i32_380
  let c1_i32_383 : BitVec 32 := 1#32
  let v473 : BitVec 32 := Scalar.muli v471 c1_i32_383
  let v474 : BitVec 32 := Scalar.addi c0_i32_384 v473
  v474.toNat
def k0_dev61 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_388 : BitVec 32 := 30#32
  let v482 : BitVec 32 := Scalar.addi v2 c30_i32_388
  let c32_i32_389 : BitVec 32 := 32#32
  let v483 : BitVec 32 := Scalar.remsi v482 c32_i32_389
  let c1_i32_392 : BitVec 32 := 1#32
  let v485 : BitVec 32 := Scalar.muli v483 c1_i32_392
  let v486 : BitVec 32 := Scalar.addi c0_i32_393 v485
  v486.toNat
def k0_dev62 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_397 : BitVec 32 := 31#32
  let v494 : BitVec 32 := Scalar.addi v2 c31_i32_397
  let c32_i32_398 : BitVec 32 := 32#32
  let v495 : BitVec 32 := Scalar.remsi v494 c32_i32_398
  let c1_i32_401 : BitVec 32 := 1#32
  let v497 : BitVec 32 := Scalar.muli v495 c1_i32_401
  let v498 : BitVec 32 := Scalar.addi c0_i32_402 v497
  v498.toNat
def k0_off4 (d0 : Dev nD) (c0_i32_407 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_406 : BitVec 32 := 128#32
  let v506 : BitVec 32 := Scalar.muli v2 c128_i32_406
  let v507 : BitVec 32 := Scalar.addi v506 c0_i32_407
  let c0_i32_414 : BitVec 32 := 0#32
  ![v507.toNat, 0]
def k0_off5 (d0 : Dev nD) (c1_i32_421 : BitVec 32) (c0_i32_425 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v520 : BitVec 32 := Scalar.subi v2 c1_i32_421
  let c32_i32_422 : BitVec 32 := 32#32
  let v521 : BitVec 32 := Scalar.addi v520 c32_i32_422
  let c32_i32_423 : BitVec 32 := 32#32
  let v522 : BitVec 32 := Scalar.remsi v521 c32_i32_423
  let c128_i32_424 : BitVec 32 := 128#32
  let v523 : BitVec 32 := Scalar.muli v522 c128_i32_424
  let v524 : BitVec 32 := Scalar.addi v523 c0_i32_425
  let c0_i32_433 : BitVec 32 := 0#32
  ![v524.toNat, 0]
def k0_off6 (d0 : Dev nD) (c0_i32_459 : BitVec 32) (c0_i32_464 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v554 : BitVec 32 := Scalar.subi v2 c0_i32_459
  let c3_i32_460 : BitVec 32 := 3#32
  let v555 : BitVec 32 := Scalar.subi v554 c3_i32_460
  let c32_i32_461 : BitVec 32 := 32#32
  let v556 : BitVec 32 := Scalar.addi v555 c32_i32_461
  let c32_i32_462 : BitVec 32 := 32#32
  let v557 : BitVec 32 := Scalar.remsi v556 c32_i32_462
  let c128_i32_463 : BitVec 32 := 128#32
  let v558 : BitVec 32 := Scalar.muli v557 c128_i32_463
  let v559 : BitVec 32 := Scalar.addi v558 c0_i32_464
  let c0_i32_472 : BitVec 32 := 0#32
  ![v559.toNat, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_495 : BitVec 32 := 128#32
  let v586 : BitVec 32 := Scalar.muli v2 c128_i32_495
  let v587 : Index := Scalar.indexCast v586
  let c0_496 : Index := 0#32
  ![v587.toNat, 0]
def k0_off8 (d0 : Dev nD) (c1_i32_502 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v594 : BitVec 32 := Scalar.subi v2 c1_i32_502
  let c32_i32_503 : BitVec 32 := 32#32
  let v595 : BitVec 32 := Scalar.addi v594 c32_i32_503
  let c32_i32_504 : BitVec 32 := 32#32
  let v596 : BitVec 32 := Scalar.remsi v595 c32_i32_504
  ![v596.toNat]
def k0_off9 (d0 : Dev nD) (c1_i32_502 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v594 : BitVec 32 := Scalar.subi v2 c1_i32_502
  let c32_i32_503 : BitVec 32 := 32#32
  let v595 : BitVec 32 := Scalar.addi v594 c32_i32_503
  let c32_i32_504 : BitVec 32 := 32#32
  let v596 : BitVec 32 := Scalar.remsi v595 c32_i32_504
  let c0_i32_544 : BitVec 32 := 0#32
  let c0_i32_545 : BitVec 32 := 0#32
  ![v596.toNat, 0, 0]
def k0_off10 (d0 : Dev nD) (c1_i32_502 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v594 : BitVec 32 := Scalar.subi v2 c1_i32_502
  let c32_i32_503 : BitVec 32 := 32#32
  let v595 : BitVec 32 := Scalar.addi v594 c32_i32_503
  let c32_i32_504 : BitVec 32 := 32#32
  let v596 : BitVec 32 := Scalar.remsi v595 c32_i32_504
  let v637 : Index := Scalar.indexCast v596
  let c0_548 : Index := 0#32
  let c0_549 : Index := 0#32
  ![v637.toNat, 0, 0]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2185 : BitVec 32 := 0#32
  let c0_i32_2186 : BitVec 32 := 0#32
  ![v2.toNat, 0, 0]
def k0_dev63 (d0 : Dev nD) : Nat :=
  let c0_i32_2184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2180 : BitVec 32 := 1#32
  let v2225 : BitVec 32 := Scalar.addi v2 c1_i32_2180
  let c32_i32_2181 : BitVec 32 := 32#32
  let v2226 : BitVec 32 := Scalar.remsi v2225 c32_i32_2181
  let c1_i32_2183 : BitVec 32 := 1#32
  let v2227 : BitVec 32 := Scalar.muli v2226 c1_i32_2183
  let v2228 : BitVec 32 := Scalar.addi c0_i32_2184 v2227
  v2228.toNat
def k0_dev64 (d0 : Dev nD) : Nat :=
  let c0_i32_2191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2187 : BitVec 32 := 2#32
  let v2235 : BitVec 32 := Scalar.addi v2 c2_i32_2187
  let c32_i32_2188 : BitVec 32 := 32#32
  let v2236 : BitVec 32 := Scalar.remsi v2235 c32_i32_2188
  let c1_i32_2190 : BitVec 32 := 1#32
  let v2237 : BitVec 32 := Scalar.muli v2236 c1_i32_2190
  let v2238 : BitVec 32 := Scalar.addi c0_i32_2191 v2237
  v2238.toNat
def k0_dev65 (d0 : Dev nD) : Nat :=
  let c0_i32_2198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2194 : BitVec 32 := 3#32
  let v2245 : BitVec 32 := Scalar.addi v2 c3_i32_2194
  let c32_i32_2195 : BitVec 32 := 32#32
  let v2246 : BitVec 32 := Scalar.remsi v2245 c32_i32_2195
  let c1_i32_2197 : BitVec 32 := 1#32
  let v2247 : BitVec 32 := Scalar.muli v2246 c1_i32_2197
  let v2248 : BitVec 32 := Scalar.addi c0_i32_2198 v2247
  v2248.toNat
def k0_dev66 (d0 : Dev nD) : Nat :=
  let c0_i32_2205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2201 : BitVec 32 := 4#32
  let v2255 : BitVec 32 := Scalar.addi v2 c4_i32_2201
  let c32_i32_2202 : BitVec 32 := 32#32
  let v2256 : BitVec 32 := Scalar.remsi v2255 c32_i32_2202
  let c1_i32_2204 : BitVec 32 := 1#32
  let v2257 : BitVec 32 := Scalar.muli v2256 c1_i32_2204
  let v2258 : BitVec 32 := Scalar.addi c0_i32_2205 v2257
  v2258.toNat
def k0_dev67 (d0 : Dev nD) : Nat :=
  let c0_i32_2212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2208 : BitVec 32 := 5#32
  let v2265 : BitVec 32 := Scalar.addi v2 c5_i32_2208
  let c32_i32_2209 : BitVec 32 := 32#32
  let v2266 : BitVec 32 := Scalar.remsi v2265 c32_i32_2209
  let c1_i32_2211 : BitVec 32 := 1#32
  let v2267 : BitVec 32 := Scalar.muli v2266 c1_i32_2211
  let v2268 : BitVec 32 := Scalar.addi c0_i32_2212 v2267
  v2268.toNat
def k0_dev68 (d0 : Dev nD) : Nat :=
  let c0_i32_2219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2215 : BitVec 32 := 6#32
  let v2275 : BitVec 32 := Scalar.addi v2 c6_i32_2215
  let c32_i32_2216 : BitVec 32 := 32#32
  let v2276 : BitVec 32 := Scalar.remsi v2275 c32_i32_2216
  let c1_i32_2218 : BitVec 32 := 1#32
  let v2277 : BitVec 32 := Scalar.muli v2276 c1_i32_2218
  let v2278 : BitVec 32 := Scalar.addi c0_i32_2219 v2277
  v2278.toNat
def k0_dev69 (d0 : Dev nD) : Nat :=
  let c0_i32_2226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2222 : BitVec 32 := 7#32
  let v2285 : BitVec 32 := Scalar.addi v2 c7_i32_2222
  let c32_i32_2223 : BitVec 32 := 32#32
  let v2286 : BitVec 32 := Scalar.remsi v2285 c32_i32_2223
  let c1_i32_2225 : BitVec 32 := 1#32
  let v2287 : BitVec 32 := Scalar.muli v2286 c1_i32_2225
  let v2288 : BitVec 32 := Scalar.addi c0_i32_2226 v2287
  v2288.toNat
def k0_dev70 (d0 : Dev nD) : Nat :=
  let c0_i32_2233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2229 : BitVec 32 := 8#32
  let v2295 : BitVec 32 := Scalar.addi v2 c8_i32_2229
  let c32_i32_2230 : BitVec 32 := 32#32
  let v2296 : BitVec 32 := Scalar.remsi v2295 c32_i32_2230
  let c1_i32_2232 : BitVec 32 := 1#32
  let v2297 : BitVec 32 := Scalar.muli v2296 c1_i32_2232
  let v2298 : BitVec 32 := Scalar.addi c0_i32_2233 v2297
  v2298.toNat
def k0_dev71 (d0 : Dev nD) : Nat :=
  let c0_i32_2240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2236 : BitVec 32 := 9#32
  let v2305 : BitVec 32 := Scalar.addi v2 c9_i32_2236
  let c32_i32_2237 : BitVec 32 := 32#32
  let v2306 : BitVec 32 := Scalar.remsi v2305 c32_i32_2237
  let c1_i32_2239 : BitVec 32 := 1#32
  let v2307 : BitVec 32 := Scalar.muli v2306 c1_i32_2239
  let v2308 : BitVec 32 := Scalar.addi c0_i32_2240 v2307
  v2308.toNat
def k0_dev72 (d0 : Dev nD) : Nat :=
  let c0_i32_2247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2243 : BitVec 32 := 10#32
  let v2315 : BitVec 32 := Scalar.addi v2 c10_i32_2243
  let c32_i32_2244 : BitVec 32 := 32#32
  let v2316 : BitVec 32 := Scalar.remsi v2315 c32_i32_2244
  let c1_i32_2246 : BitVec 32 := 1#32
  let v2317 : BitVec 32 := Scalar.muli v2316 c1_i32_2246
  let v2318 : BitVec 32 := Scalar.addi c0_i32_2247 v2317
  v2318.toNat
def k0_dev73 (d0 : Dev nD) : Nat :=
  let c0_i32_2254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2250 : BitVec 32 := 11#32
  let v2325 : BitVec 32 := Scalar.addi v2 c11_i32_2250
  let c32_i32_2251 : BitVec 32 := 32#32
  let v2326 : BitVec 32 := Scalar.remsi v2325 c32_i32_2251
  let c1_i32_2253 : BitVec 32 := 1#32
  let v2327 : BitVec 32 := Scalar.muli v2326 c1_i32_2253
  let v2328 : BitVec 32 := Scalar.addi c0_i32_2254 v2327
  v2328.toNat
def k0_dev74 (d0 : Dev nD) : Nat :=
  let c0_i32_2261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2257 : BitVec 32 := 12#32
  let v2335 : BitVec 32 := Scalar.addi v2 c12_i32_2257
  let c32_i32_2258 : BitVec 32 := 32#32
  let v2336 : BitVec 32 := Scalar.remsi v2335 c32_i32_2258
  let c1_i32_2260 : BitVec 32 := 1#32
  let v2337 : BitVec 32 := Scalar.muli v2336 c1_i32_2260
  let v2338 : BitVec 32 := Scalar.addi c0_i32_2261 v2337
  v2338.toNat
def k0_dev75 (d0 : Dev nD) : Nat :=
  let c0_i32_2268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2264 : BitVec 32 := 13#32
  let v2345 : BitVec 32 := Scalar.addi v2 c13_i32_2264
  let c32_i32_2265 : BitVec 32 := 32#32
  let v2346 : BitVec 32 := Scalar.remsi v2345 c32_i32_2265
  let c1_i32_2267 : BitVec 32 := 1#32
  let v2347 : BitVec 32 := Scalar.muli v2346 c1_i32_2267
  let v2348 : BitVec 32 := Scalar.addi c0_i32_2268 v2347
  v2348.toNat
def k0_dev76 (d0 : Dev nD) : Nat :=
  let c0_i32_2275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2271 : BitVec 32 := 14#32
  let v2355 : BitVec 32 := Scalar.addi v2 c14_i32_2271
  let c32_i32_2272 : BitVec 32 := 32#32
  let v2356 : BitVec 32 := Scalar.remsi v2355 c32_i32_2272
  let c1_i32_2274 : BitVec 32 := 1#32
  let v2357 : BitVec 32 := Scalar.muli v2356 c1_i32_2274
  let v2358 : BitVec 32 := Scalar.addi c0_i32_2275 v2357
  v2358.toNat
def k0_dev77 (d0 : Dev nD) : Nat :=
  let c0_i32_2282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2278 : BitVec 32 := 15#32
  let v2365 : BitVec 32 := Scalar.addi v2 c15_i32_2278
  let c32_i32_2279 : BitVec 32 := 32#32
  let v2366 : BitVec 32 := Scalar.remsi v2365 c32_i32_2279
  let c1_i32_2281 : BitVec 32 := 1#32
  let v2367 : BitVec 32 := Scalar.muli v2366 c1_i32_2281
  let v2368 : BitVec 32 := Scalar.addi c0_i32_2282 v2367
  v2368.toNat
def k0_dev78 (d0 : Dev nD) : Nat :=
  let c0_i32_2289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2285 : BitVec 32 := 16#32
  let v2375 : BitVec 32 := Scalar.addi v2 c16_i32_2285
  let c32_i32_2286 : BitVec 32 := 32#32
  let v2376 : BitVec 32 := Scalar.remsi v2375 c32_i32_2286
  let c1_i32_2288 : BitVec 32 := 1#32
  let v2377 : BitVec 32 := Scalar.muli v2376 c1_i32_2288
  let v2378 : BitVec 32 := Scalar.addi c0_i32_2289 v2377
  v2378.toNat
def k0_dev79 (d0 : Dev nD) : Nat :=
  let c0_i32_2296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2292 : BitVec 32 := 17#32
  let v2385 : BitVec 32 := Scalar.addi v2 c17_i32_2292
  let c32_i32_2293 : BitVec 32 := 32#32
  let v2386 : BitVec 32 := Scalar.remsi v2385 c32_i32_2293
  let c1_i32_2295 : BitVec 32 := 1#32
  let v2387 : BitVec 32 := Scalar.muli v2386 c1_i32_2295
  let v2388 : BitVec 32 := Scalar.addi c0_i32_2296 v2387
  v2388.toNat
def k0_dev80 (d0 : Dev nD) : Nat :=
  let c0_i32_2303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2299 : BitVec 32 := 18#32
  let v2395 : BitVec 32 := Scalar.addi v2 c18_i32_2299
  let c32_i32_2300 : BitVec 32 := 32#32
  let v2396 : BitVec 32 := Scalar.remsi v2395 c32_i32_2300
  let c1_i32_2302 : BitVec 32 := 1#32
  let v2397 : BitVec 32 := Scalar.muli v2396 c1_i32_2302
  let v2398 : BitVec 32 := Scalar.addi c0_i32_2303 v2397
  v2398.toNat
def k0_dev81 (d0 : Dev nD) : Nat :=
  let c0_i32_2310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2306 : BitVec 32 := 19#32
  let v2405 : BitVec 32 := Scalar.addi v2 c19_i32_2306
  let c32_i32_2307 : BitVec 32 := 32#32
  let v2406 : BitVec 32 := Scalar.remsi v2405 c32_i32_2307
  let c1_i32_2309 : BitVec 32 := 1#32
  let v2407 : BitVec 32 := Scalar.muli v2406 c1_i32_2309
  let v2408 : BitVec 32 := Scalar.addi c0_i32_2310 v2407
  v2408.toNat
def k0_dev82 (d0 : Dev nD) : Nat :=
  let c0_i32_2317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2313 : BitVec 32 := 20#32
  let v2415 : BitVec 32 := Scalar.addi v2 c20_i32_2313
  let c32_i32_2314 : BitVec 32 := 32#32
  let v2416 : BitVec 32 := Scalar.remsi v2415 c32_i32_2314
  let c1_i32_2316 : BitVec 32 := 1#32
  let v2417 : BitVec 32 := Scalar.muli v2416 c1_i32_2316
  let v2418 : BitVec 32 := Scalar.addi c0_i32_2317 v2417
  v2418.toNat
def k0_dev83 (d0 : Dev nD) : Nat :=
  let c0_i32_2324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2320 : BitVec 32 := 21#32
  let v2425 : BitVec 32 := Scalar.addi v2 c21_i32_2320
  let c32_i32_2321 : BitVec 32 := 32#32
  let v2426 : BitVec 32 := Scalar.remsi v2425 c32_i32_2321
  let c1_i32_2323 : BitVec 32 := 1#32
  let v2427 : BitVec 32 := Scalar.muli v2426 c1_i32_2323
  let v2428 : BitVec 32 := Scalar.addi c0_i32_2324 v2427
  v2428.toNat
def k0_dev84 (d0 : Dev nD) : Nat :=
  let c0_i32_2331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2327 : BitVec 32 := 22#32
  let v2435 : BitVec 32 := Scalar.addi v2 c22_i32_2327
  let c32_i32_2328 : BitVec 32 := 32#32
  let v2436 : BitVec 32 := Scalar.remsi v2435 c32_i32_2328
  let c1_i32_2330 : BitVec 32 := 1#32
  let v2437 : BitVec 32 := Scalar.muli v2436 c1_i32_2330
  let v2438 : BitVec 32 := Scalar.addi c0_i32_2331 v2437
  v2438.toNat
def k0_dev85 (d0 : Dev nD) : Nat :=
  let c0_i32_2338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2334 : BitVec 32 := 23#32
  let v2445 : BitVec 32 := Scalar.addi v2 c23_i32_2334
  let c32_i32_2335 : BitVec 32 := 32#32
  let v2446 : BitVec 32 := Scalar.remsi v2445 c32_i32_2335
  let c1_i32_2337 : BitVec 32 := 1#32
  let v2447 : BitVec 32 := Scalar.muli v2446 c1_i32_2337
  let v2448 : BitVec 32 := Scalar.addi c0_i32_2338 v2447
  v2448.toNat
def k0_dev86 (d0 : Dev nD) : Nat :=
  let c0_i32_2345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2341 : BitVec 32 := 24#32
  let v2455 : BitVec 32 := Scalar.addi v2 c24_i32_2341
  let c32_i32_2342 : BitVec 32 := 32#32
  let v2456 : BitVec 32 := Scalar.remsi v2455 c32_i32_2342
  let c1_i32_2344 : BitVec 32 := 1#32
  let v2457 : BitVec 32 := Scalar.muli v2456 c1_i32_2344
  let v2458 : BitVec 32 := Scalar.addi c0_i32_2345 v2457
  v2458.toNat
def k0_dev87 (d0 : Dev nD) : Nat :=
  let c0_i32_2352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2348 : BitVec 32 := 25#32
  let v2465 : BitVec 32 := Scalar.addi v2 c25_i32_2348
  let c32_i32_2349 : BitVec 32 := 32#32
  let v2466 : BitVec 32 := Scalar.remsi v2465 c32_i32_2349
  let c1_i32_2351 : BitVec 32 := 1#32
  let v2467 : BitVec 32 := Scalar.muli v2466 c1_i32_2351
  let v2468 : BitVec 32 := Scalar.addi c0_i32_2352 v2467
  v2468.toNat
def k0_dev88 (d0 : Dev nD) : Nat :=
  let c0_i32_2359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2355 : BitVec 32 := 26#32
  let v2475 : BitVec 32 := Scalar.addi v2 c26_i32_2355
  let c32_i32_2356 : BitVec 32 := 32#32
  let v2476 : BitVec 32 := Scalar.remsi v2475 c32_i32_2356
  let c1_i32_2358 : BitVec 32 := 1#32
  let v2477 : BitVec 32 := Scalar.muli v2476 c1_i32_2358
  let v2478 : BitVec 32 := Scalar.addi c0_i32_2359 v2477
  v2478.toNat
def k0_dev89 (d0 : Dev nD) : Nat :=
  let c0_i32_2366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2362 : BitVec 32 := 27#32
  let v2485 : BitVec 32 := Scalar.addi v2 c27_i32_2362
  let c32_i32_2363 : BitVec 32 := 32#32
  let v2486 : BitVec 32 := Scalar.remsi v2485 c32_i32_2363
  let c1_i32_2365 : BitVec 32 := 1#32
  let v2487 : BitVec 32 := Scalar.muli v2486 c1_i32_2365
  let v2488 : BitVec 32 := Scalar.addi c0_i32_2366 v2487
  v2488.toNat
def k0_dev90 (d0 : Dev nD) : Nat :=
  let c0_i32_2373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2369 : BitVec 32 := 28#32
  let v2495 : BitVec 32 := Scalar.addi v2 c28_i32_2369
  let c32_i32_2370 : BitVec 32 := 32#32
  let v2496 : BitVec 32 := Scalar.remsi v2495 c32_i32_2370
  let c1_i32_2372 : BitVec 32 := 1#32
  let v2497 : BitVec 32 := Scalar.muli v2496 c1_i32_2372
  let v2498 : BitVec 32 := Scalar.addi c0_i32_2373 v2497
  v2498.toNat
def k0_dev91 (d0 : Dev nD) : Nat :=
  let c0_i32_2380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2376 : BitVec 32 := 29#32
  let v2505 : BitVec 32 := Scalar.addi v2 c29_i32_2376
  let c32_i32_2377 : BitVec 32 := 32#32
  let v2506 : BitVec 32 := Scalar.remsi v2505 c32_i32_2377
  let c1_i32_2379 : BitVec 32 := 1#32
  let v2507 : BitVec 32 := Scalar.muli v2506 c1_i32_2379
  let v2508 : BitVec 32 := Scalar.addi c0_i32_2380 v2507
  v2508.toNat
def k0_dev92 (d0 : Dev nD) : Nat :=
  let c0_i32_2387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2383 : BitVec 32 := 30#32
  let v2515 : BitVec 32 := Scalar.addi v2 c30_i32_2383
  let c32_i32_2384 : BitVec 32 := 32#32
  let v2516 : BitVec 32 := Scalar.remsi v2515 c32_i32_2384
  let c1_i32_2386 : BitVec 32 := 1#32
  let v2517 : BitVec 32 := Scalar.muli v2516 c1_i32_2386
  let v2518 : BitVec 32 := Scalar.addi c0_i32_2387 v2517
  v2518.toNat
def k0_dev93 (d0 : Dev nD) : Nat :=
  let c0_i32_2394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2390 : BitVec 32 := 31#32
  let v2525 : BitVec 32 := Scalar.addi v2 c31_i32_2390
  let c32_i32_2391 : BitVec 32 := 32#32
  let v2526 : BitVec 32 := Scalar.remsi v2525 c32_i32_2391
  let c1_i32_2393 : BitVec 32 := 1#32
  let v2527 : BitVec 32 := Scalar.muli v2526 c1_i32_2393
  let v2528 : BitVec 32 := Scalar.addi c0_i32_2394 v2527
  v2528.toNat
def k0_off12 (d0 : Dev nD) (c1_i32_2397 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2535 : BitVec 32 := Scalar.addi v2 c1_i32_2397
  let c32_i32_2398 : BitVec 32 := 32#32
  let v2536 : BitVec 32 := Scalar.remsi v2535 c32_i32_2398
  ![v2536.toNat]
def k0_off13 (d0 : Dev nD) (c1_i32_2397 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2535 : BitVec 32 := Scalar.addi v2 c1_i32_2397
  let c32_i32_2398 : BitVec 32 := 32#32
  let v2536 : BitVec 32 := Scalar.remsi v2535 c32_i32_2398
  let c0_i32_2402 : BitVec 32 := 0#32
  let c0_i32_2403 : BitVec 32 := 0#32
  ![v2536.toNat, 0, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x8192, .f32⟩
  | .local _ .vmem, ⟨0, _⟩ => ⟨S4096x8192, .f32⟩
  | .local _ .vmem, ⟨1, _⟩ => ⟨S1x1, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Loops.lean ====
/-
# The body of the kernel as loops

The printed body is straight-line: every loop of the kernel over the other devices is unrolled, and the sequence
is cut into parts of a fixed length wherever the count runs out. Here the same sequence is written as the loops
it comes from, over the generated offsets and device numbers, and the printed body is shown to be it.
-/
module

public import proofs.«01_k».proof.Proof.Gen.KernelIdeal
public import proofs.«01_k».proof.Proof.Gen.KernelIdeal.Skeleton
public import Idealize.ShloMosaic.Lib.Tactic

@[expose] public section

set_option maxRecDepth 65536

noncomputable section

namespace Cert.K01

open Cert.KernelIdeal Cert.KernelIdeal.Gen
open Idealize.ShloMosaic Idealize.SL.Sem

variable {F : FTy → Type} [FloatOps F]

/-- The programs of the kernel's threads. -/
abbrev PG (F : FTy → Type) [FloatOps F] (α : Type) := Prog (TpuEff nD τ sig (Elt F) Λ₀ .tc) α

/-- `f 0`, then `f 1`, …, then `f (n - 1)`. -/
def each : (n : ℕ) → (Fin n → PG F PUnit) → PG F PUnit
  | 0, _ => pure ⟨⟩
  | n + 1, f => do
      f 0
      each n (fun i => f i.succ)

/-- The device the `i`-th signal of the entry handshake goes to. -/
def sigDev (i : Fin 31) : Dev nD → Dev nD := (![
  fun d0 => ⟨k0_dev1 d0, k0_dev1_lt d0⟩, fun d0 => ⟨k0_dev2 d0, k0_dev2_lt d0⟩, fun d0 => ⟨k0_dev3
   d0, k0_dev3_lt d0⟩, fun d0 => ⟨k0_dev4 d0, k0_dev4_lt d0⟩, fun d0 => ⟨k0_dev5 d0, k0_dev5_lt d0⟩,
   fun d0 => ⟨k0_dev6 d0, k0_dev6_lt d0⟩, fun d0 => ⟨k0_dev7 d0, k0_dev7_lt d0⟩, fun d0 => ⟨k0_dev8
   d0, k0_dev8_lt d0⟩, fun d0 => ⟨k0_dev9 d0, k0_dev9_lt d0⟩, fun d0 => ⟨k0_dev10 d0, k0_dev10_lt
   d0⟩, fun d0 => ⟨k0_dev11 d0, k0_dev11_lt d0⟩, fun d0 => ⟨k0_dev12 d0, k0_dev12_lt d0⟩, fun d0 =>
   ⟨k0_dev13 d0, k0_dev13_lt d0⟩, fun d0 => ⟨k0_dev14 d0, k0_dev14_lt d0⟩, fun d0 => ⟨k0_dev15 d0,
   k0_dev15_lt d0⟩, fun d0 => ⟨k0_dev16 d0, k0_dev16_lt d0⟩, fun d0 => ⟨k0_dev17 d0, k0_dev17_lt
   d0⟩, fun d0 => ⟨k0_dev18 d0, k0_dev18_lt d0⟩, fun d0 => ⟨k0_dev19 d0, k0_dev19_lt d0⟩, fun d0 =>
   ⟨k0_dev20 d0, k0_dev20_lt d0⟩, fun d0 => ⟨k0_dev21 d0, k0_dev21_lt d0⟩, fun d0 => ⟨k0_dev22 d0,
   k0_dev22_lt d0⟩, fun d0 => ⟨k0_dev23 d0, k0_dev23_lt d0⟩, fun d0 => ⟨k0_dev24 d0, k0_dev24_lt
   d0⟩, fun d0 => ⟨k0_dev25 d0, k0_dev25_lt d0⟩, fun d0 => ⟨k0_dev26 d0, k0_dev26_lt d0⟩, fun d0 =>
   ⟨k0_dev27 d0, k0_dev27_lt d0⟩, fun d0 => ⟨k0_dev28 d0, k0_dev28_lt d0⟩, fun d0 => ⟨k0_dev29 d0,
   k0_dev29_lt d0⟩, fun d0 => ⟨k0_dev30 d0, k0_dev30_lt d0⟩, fun d0 => ⟨k0_dev31 d0, k0_dev31_lt d0⟩] : Fin 31 → Dev nD → Dev nD) i

/-- The device the `i`-th block of `x` goes to. -/
def sendDev (i : Fin 31) : Dev nD → Dev nD := (![
  fun d0 => ⟨k0_dev32 d0, k0_dev32_lt d0⟩, fun d0 => ⟨k0_dev33 d0, k0_dev33_lt d0⟩, fun d0 =>
   ⟨k0_dev34 d0, k0_dev34_lt d0⟩, fun d0 => ⟨k0_dev35 d0, k0_dev35_lt d0⟩, fun d0 => ⟨k0_dev36 d0,
   k0_dev36_lt d0⟩, fun d0 => ⟨k0_dev37 d0, k0_dev37_lt d0⟩, fun d0 => ⟨k0_dev38 d0, k0_dev38_lt
   d0⟩, fun d0 => ⟨k0_dev39 d0, k0_dev39_lt d0⟩, fun d0 => ⟨k0_dev40 d0, k0_dev40_lt d0⟩, fun d0 =>
   ⟨k0_dev41 d0, k0_dev41_lt d0⟩, fun d0 => ⟨k0_dev42 d0, k0_dev42_lt d0⟩, fun d0 => ⟨k0_dev43 d0,
   k0_dev43_lt d0⟩, fun d0 => ⟨k0_dev44 d0, k0_dev44_lt d0⟩, fun d0 => ⟨k0_dev45 d0, k0_dev45_lt
   d0⟩, fun d0 => ⟨k0_dev46 d0, k0_dev46_lt d0⟩, fun d0 => ⟨k0_dev47 d0, k0_dev47_lt d0⟩, fun d0 =>
   ⟨k0_dev48 d0, k0_dev48_lt d0⟩, fun d0 => ⟨k0_dev49 d0, k0_dev49_lt d0⟩, fun d0 => ⟨k0_dev50 d0,
   k0_dev50_lt d0⟩, fun d0 => ⟨k0_dev51 d0, k0_dev51_lt d0⟩, fun d0 => ⟨k0_dev52 d0, k0_dev52_lt
   d0⟩, fun d0 => ⟨k0_dev53 d0, k0_dev53_lt d0⟩, fun d0 => ⟨k0_dev54 d0, k0_dev54_lt d0⟩, fun d0 =>
   ⟨k0_dev55 d0, k0_dev55_lt d0⟩, fun d0 => ⟨k0_dev56 d0, k0_dev56_lt d0⟩, fun d0 => ⟨k0_dev57 d0,
   k0_dev57_lt d0⟩, fun d0 => ⟨k0_dev58 d0, k0_dev58_lt d0⟩, fun d0 => ⟨k0_dev59 d0, k0_dev59_lt
   d0⟩, fun d0 => ⟨k0_dev60 d0, k0_dev60_lt d0⟩, fun d0 => ⟨k0_dev61 d0, k0_dev61_lt d0⟩, fun d0 =>
   ⟨k0_dev62 d0, k0_dev62_lt d0⟩] : Fin 31 → Dev nD → Dev nD) i

/-- The device the local maximum's `i`-th copy goes to. -/
def agDev (i : Fin 31) : Dev nD → Dev nD := (![
  fun d0 => ⟨k0_dev63 d0, k0_dev63_lt d0⟩, fun d0 => ⟨k0_dev64 d0, k0_dev64_lt d0⟩, fun d0 =>
   ⟨k0_dev65 d0, k0_dev65_lt d0⟩, fun d0 => ⟨k0_dev66 d0, k0_dev66_lt d0⟩, fun d0 => ⟨k0_dev67 d0,
   k0_dev67_lt d0⟩, fun d0 => ⟨k0_dev68 d0, k0_dev68_lt d0⟩, fun d0 => ⟨k0_dev69 d0, k0_dev69_lt
   d0⟩, fun d0 => ⟨k0_dev70 d0, k0_dev70_lt d0⟩, fun d0 => ⟨k0_dev71 d0, k0_dev71_lt d0⟩, fun d0 =>
   ⟨k0_dev72 d0, k0_dev72_lt d0⟩, fun d0 => ⟨k0_dev73 d0, k0_dev73_lt d0⟩, fun d0 => ⟨k0_dev74 d0,
   k0_dev74_lt d0⟩, fun d0 => ⟨k0_dev75 d0, k0_dev75_lt d0⟩, fun d0 => ⟨k0_dev76 d0, k0_dev76_lt
   d0⟩, fun d0 => ⟨k0_dev77 d0, k0_dev77_lt d0⟩, fun d0 => ⟨k0_dev78 d0, k0_dev78_lt d0⟩, fun d0 =>
   ⟨k0_dev79 d0, k0_dev79_lt d0⟩, fun d0 => ⟨k0_dev80 d0, k0_dev80_lt d0⟩, fun d0 => ⟨k0_dev81 d0,
   k0_dev81_lt d0⟩, fun d0 => ⟨k0_dev82 d0, k0_dev82_lt d0⟩, fun d0 => ⟨k0_dev83 d0, k0_dev83_lt
   d0⟩, fun d0 => ⟨k0_dev84 d0, k0_dev84_lt d0⟩, fun d0 => ⟨k0_dev85 d0, k0_dev85_lt d0⟩, fun d0 =>
   ⟨k0_dev86 d0, k0_dev86_lt d0⟩, fun d0 => ⟨k0_dev87 d0, k0_dev87_lt d0⟩, fun d0 => ⟨k0_dev88 d0,
   k0_dev88_lt d0⟩, fun d0 => ⟨k0_dev89 d0, k0_dev89_lt d0⟩, fun d0 => ⟨k0_dev90 d0, k0_dev90_lt
   d0⟩, fun d0 => ⟨k0_dev91 d0, k0_dev91_lt d0⟩, fun d0 => ⟨k0_dev92 d0, k0_dev92_lt d0⟩, fun d0 =>
   ⟨k0_dev93 d0, k0_dev93_lt d0⟩] : Fin 31 → Dev nD → Dev nD) i

theorem inb_sem (i : Fin 31) : ∀ a, (![i.val + 1] : Fin 1 → ℕ) a + S1.size a ≤ S32.size a := by
  revert i; decide

theorem inb_wsem (s : Fin 4) (h : Fin 2) : ∀ a, (![s.val, h.val] : Fin 2 → ℕ) a + S1x1.size a ≤ S4x2.size a := by
  revert s h; decide

theorem inb_wt (s : Fin 4) (h : Fin 2) :
    ∀ a, (![s.val, 64 * h.val, 0] : Fin 3 → ℕ) a + S1x64x8192.size a ≤ S4x128x8192.size a := by
  revert s h; decide

theorem inb_wt2 (s : Fin 4) :
    ∀ a, (![s.val, 0, 0] : Fin 3 → ℕ) a + S1x128x8192.size a ≤ S4x128x8192.size a := by
  revert s; decide

/-- One block's product added to what is there. -/
def gemm (xs : Vec F S1x128x128 .bf16) (wt : Vec F S1x128x8192 .f32) (acc : Vec F S128x8192 .f32) :
    FVec F S128x8192 .f32 :=
  k0_pay6 xs wt acc

section Ops

variable (arg0 : Memref sig .tc .vmem S4096x128 .f32) (harg0 : arg0.IsWhole)
  (arg1 : Memref sig .tc .hbm S4096x8192 .f32) (harg1 : arg1.IsWhole)
  (arg2 : Memref sig .tc .vmem S128x8192 .f32) (harg2 : arg2.IsWhole)
  (arg3 : Memref sig .tc .vmem S4096x128 .bf16) (harg3 : arg3.IsWhole)
  (arg4 : Memref sig .tc .vmem S32x128x128 .bf16) (harg4 : arg4.IsWhole)
  (arg5 : Memref sig .tc .vmem S4x128x8192 .f32) (harg5 : arg5.IsWhole)
  (arg6 : Memref sig .tc .vmem S8x128 .f32) (harg6 : arg6.IsWhole)
  (arg7 : Memref sig .tc .vmem S32x8x128 .f32) (harg7 : arg7.IsWhole)
  (arg8 arg9 : DmaSems sig S32) (arg10 : DmaSems sig S4x2) (arg11 arg12 : DmaSems sig S32) (d0 : Dev nD)

/-! ## The views the operations name -/

/-- The semaphore of the `i`-th member of an array of 32, the own member left out. -/
abbrev semAt (a : DmaSems sig S32) (i : Fin 31) : DmaSem sig :=
  ((a.slice (Rect.unit (s := S32) ![i.val + 1] S1.size (inb_sem i))).squeeze S_ squeezes_S1_S_).sem

/-- The semaphore of this device's own number. -/
abbrev semMe (a : DmaSems sig S32) : DmaSem sig :=
  ((a.slice (Rect.unit (s := S32) (k0_off1 d0) S1.size (k0_off1_inb d0))).squeeze S_ squeezes_S1_S_).sem

/-- The landing semaphore of the block the `i`-th step multiplies. -/
abbrev recvSem (i : Fin 31) : DmaSem sig :=
  ((arg9.slice (Rect.unit (s := S32) (k0_off8 d0 (BitVec.ofNat 32 (1 + i.val))) S1.size (k0_off8_inb d0 i))).squeeze
    S_ squeezes_S1_S_).sem

/-- The landing semaphore of the `i`-th other device's maximum. -/
abbrev agSem (i : Fin 31) : DmaSem sig :=
  ((arg12.slice (Rect.unit (s := S32) (k0_off12 d0 (BitVec.ofNat 32 (1 + i.val))) S1.size (k0_off12_inb d0 i))).squeeze
    S_ squeezes_S1_S_).sem

/-- The semaphore of a half of a slot of the `w` blocks. -/
abbrev wSem (s : Fin 4) (h : Fin 2) : DmaSem sig :=
  ((arg10.slice (Rect.unit (s := S4x2) ![s.val, h.val] S1x1.size (inb_wsem s h))).squeeze S_ squeezes_S1x1_S_).sem

/-- The rows of the cast `x` that go out at the `i`-th send. -/
abbrev xsV (i : Fin 31) : Memref sig .tc .vmem S128x128 .bf16 :=
  arg3.slice (Rect.unit (s := S4096x128) (k0_off3 d0 (BitVec.ofNat 32 (1 + i.val))) S128x128.size (k0_off3_inb d0 i))
    (fun _ => rfl)

/-- The place of this device's rows in a landing buffer. -/
abbrev xrMe : Memref sig .tc .vmem S128x128 .bf16 :=
  (arg4.slice (Rect.unit (s := S32x128x128) (k0_off2 d0) S1x128x128.size (k0_off2_inb d0)) (fun _ => rfl)).squeeze
    S128x128 squeezes_S1x128x128_S128x128

/-- The place the `i`-th step's rows land in. -/
abbrev xrV (i : Fin 31) : Memref sig .tc .vmem S128x128 .bf16 :=
  (arg4.slice (Rect.unit (s := S32x128x128) (k0_off9 d0 (BitVec.ofNat 32 (1 + i.val))) S1x128x128.size
    (k0_off9_inb d0 i)) (fun _ => rfl)).squeeze S128x128 squeezes_S1x128x128_S128x128

/-- A half of a slot of the `w` blocks. -/
abbrev wtV (s : Fin 4) (h : Fin 2) : Memref sig .tc .vmem S64x8192 .f32 :=
  (arg5.slice (Rect.unit (s := S4x128x8192) ![s.val, 64 * h.val, 0] S1x64x8192.size (inb_wt s h)) (fun _ => rfl)).squeeze
    S64x8192 squeezes_S1x64x8192_S64x8192

/-- This device's place in a buffer of maxima. -/
abbrev amMe : Memref sig .tc .vmem S8x128 .f32 :=
  (arg7.slice (Rect.unit (s := S32x8x128) (k0_off11 d0) S1x8x128.size (k0_off11_inb d0)) (fun _ => rfl)).squeeze
    S8x128 squeezes_S1x8x128_S8x128

/-- The place the `i`-th other device's maximum lands in. -/
abbrev amV (i : Fin 31) : Memref sig .tc .vmem S8x128 .f32 :=
  (arg7.slice (Rect.unit (s := S32x8x128) (k0_off13 d0 (BitVec.ofNat 32 (1 + i.val))) S1x8x128.size
    (k0_off13_inb d0 i)) (fun _ => rfl)).squeeze S8x128 squeezes_S1x8x128_S8x128

/-- A half of this device's own block of `w`. -/
abbrev w4V (h : Fin 2) : Memref sig .tc .hbm S64x8192 .f32 :=
  arg1.slice (Rect.unit (s := S4096x8192) (k0_off4 d0 (BitVec.ofNat 32 (64 * h.val))) S64x8192.size (k0_off4_inb d0 h))
    (fun _ => rfl)

/-- A half of the block of `w` the step after the `i`-th multiplies. -/
abbrev w5V (i : Fin 31) (h : Fin 2) : Memref sig .tc .hbm S64x8192 .f32 :=
  arg1.slice (Rect.unit (s := S4096x8192) (k0_off5 d0 (BitVec.ofNat 32 (1 + i.val)) (BitVec.ofNat 32 (64 * h.val)))
    S64x8192.size (k0_off5_inb d0 i h)) (fun _ => rfl)

/-- A half of the block of `w` fetched at the `i`-th step. -/
abbrev w6V (i : Fin 29) (h : Fin 2) : Memref sig .tc .hbm S64x8192 .f32 :=
  arg1.slice (Rect.unit (s := S4096x8192) (k0_off6 d0 (BitVec.ofNat 32 i.val) (BitVec.ofNat 32 (64 * h.val)))
    S64x8192.size (k0_off6_inb d0 i h)) (fun _ => rfl)

/-! ## The operations -/

/-- The slot a step's block of `w` lies in. -/
abbrev slotOf (k : ℕ) : Fin 4 := ⟨k % 4, Nat.mod_lt _ (by decide)⟩

def sigOp (i : Fin 31) : PG F PUnit :=
  semSignalWord (sigDev i d0) (SemArray.scalar (sig.barrier 0 rfl) : Sems sig S_).sem 1#32

def castOp : PG F PUnit := do
  let v128 : Vec F S4096x128 .f32 ← Prog.lift (.load arg0 (Rect.unit (s := S4096x128) ![0, 0] S4096x128.size inb_S4096x128_S4096x128_0_0).toLoadRect (View.loadsAt_vmem h_S4096x128))
  let v131 : Vec F S4096x128 .bf16 ← Prog.lift (.load arg3 (Rect.unit (s := S4096x128) ![0, 0] S4096x128.size inb_S4096x128_S4096x128_0_0).toLoadRect (View.loadsAt_vmem h_S4096x128))
  Prog.lift (.store arg3 (Rect.unit (s := S4096x128) ![0, 0] S4096x128.size inb_S4096x128_S4096x128_0_0) (k0_pay1 v128) Finset.univ (View.stores_vmem h_S4096x128 (harg3.storeExact_slice rfl _ packedbf16_S4096x128_S4096x128_0_0) (fun _ => rfl)) (.inl rfl))

def sendOp (i : Fin 31) : PG F PUnit :=
  Prog.lift (.enqueueDma (xsV arg3 d0 i) (.remote (Dev.tc (sendDev i d0)) (xrMe arg4 d0) (.dma (semAt arg8 i)))
    (.dma (semMe d0 arg9)) (harg3.wordExact_slice rfl _ (k0_off3_wordsbf16 d0 i))
    ((harg4.wordExact_slice rfl _ (k0_off2_wordsbf16 d0)).reshape _ _) ⟨⟨rfl, Or.inl rfl⟩, trivial⟩)

def fetch (src : Memref sig .tc .hbm S64x8192 .f32) (s : Fin 4) (h : Fin 2) : PG F PUnit :=
  Prog.lift (.enqueueDma src (.here (wtV arg5 s h)) (.dma (wSem arg10 s h)) (View.wordExact_bits rfl)
    ((View.wordExact_bits rfl).reshape _ _) ⟨Or.inl rfl, trivial⟩)

def await (src : Memref sig .tc .hbm S64x8192 .f32) (s : Fin 4) (h : Fin 2) : PG F PUnit :=
  Prog.lift (.waitDma2 (wSem arg10 s h) src (wtV arg5 s h) (View.wordExact_bits rfl) ((View.wordExact_bits rfl).reshape _ _))

def fetch6 (i : Fin 29) : PG F PUnit := do
  fetch arg5 arg10 (w6V arg1 d0 i 0) (slotOf (i.val + 3)) 0
  fetch arg5 arg10 (w6V arg1 d0 i 1) (slotOf (i.val + 3)) 1

def fetches : PG F PUnit := do
  fetch arg5 arg10 (w4V arg1 d0 0) 0 0
  fetch arg5 arg10 (w4V arg1 d0 1) 0 1
  fetch arg5 arg10 (w5V arg1 d0 0 0) 1 0
  fetch arg5 arg10 (w5V arg1 d0 0 1) 1 1
  fetch arg5 arg10 (w5V arg1 d0 1 0) 2 0
  fetch arg5 arg10 (w5V arg1 d0 1 1) 2 1

def loadO : PG F (Vec F S128x8192 .f32) :=
  Prog.lift (.load arg2 (Rect.unit (s := S128x8192) ![0, 0] S128x8192.size inb_S128x8192_S128x8192_0_0).toLoadRect (View.loadsAt_vmem h_S128x8192))

def storeO (v : FVec F S128x8192 .f32) : PG F PUnit :=
  Prog.lift (.store arg2 (Rect.unit (s := S128x8192) ![0, 0] S128x8192.size inb_S128x8192_S128x8192_0_0) v Finset.univ (View.stores_vmem_bits_univ h_S128x8192 rfl) (.inl rfl))

def loadW (s : Fin 4) : PG F (Vec F S1x128x8192 .f32) :=
  Prog.lift (.load arg5 (Rect.unit (s := S4x128x8192) ![s.val, 0, 0] S1x128x8192.size (inb_wt2 s)).toLoadRect (View.loadsAt_vmem h_S1x128x8192))

def step0 : PG F PUnit := do
  fetch6 arg1 arg5 arg10 d0 0
  await arg5 arg10 (w4V arg1 d0 0) 0 0
  await arg5 arg10 (w4V arg1 d0 1) 0 1
  let v588 : Vec F S128x128 .bf16 ← Prog.lift (.load arg3 (Rect.unit (s := S4096x128) (k0_off7 d0) S128x128.size (k0_off7_inb d0)).toLoadRect (View.loadsAt_vmem h_S128x128))
  let v589 : Vec F S1x128x8192 .f32 ← loadW arg5 0
  let _v593 : Vec F S128x8192 .f32 ← loadO arg2
  storeO arg2 (k0_pay2 v588 v589)

def recvOp (i : Fin 31) : PG F PUnit :=
  Prog.lift (.waitDma2 (recvSem arg9 d0 i) (xrV arg4 d0 i) (xrV arg4 d0 i)
    ((harg4.wordExact_slice rfl _ (k0_off9_wordsbf16 d0 i)).reshape _ _)
    ((harg4.wordExact_slice rfl _ (k0_off9_wordsbf16 d0 i)).reshape _ _))

def stepOp (i : Fin 31) : PG F PUnit := do
  await arg5 arg10 (w5V arg1 d0 i 0) (slotOf (i.val + 1)) 0
  await arg5 arg10 (w5V arg1 d0 i 1) (slotOf (i.val + 1)) 1
  recvOp arg4 harg4 arg9 d0 i
  let xs : Vec F S1x128x128 .bf16 ← Prog.lift (.load arg4 (Rect.unit (s := S32x128x128) (k0_off10 d0 (BitVec.ofNat 32 (1 + i.val))) S1x128x128.size (k0_off10_inb d0 i)).toLoadRect (View.loadsAt_vmem h_S1x128x128))
  let wt : Vec F S1x128x8192 .f32 ← loadW arg5 (slotOf (i.val + 1))
  let acc : Vec F S128x8192 .f32 ← loadO arg2
  let _acc : Vec F S128x8192 .f32 ← loadO arg2
  storeO arg2 (gemm xs wt acc)

def boxOp : PG F (F .f32) := do
  let v2214 : Vec F S128x8192 .f32 ← loadO arg2
  let _v2222 : Vec F S8x128 .f32 ← Prog.lift (.load arg6 (Rect.unit (s := S8x128) ![0, 0] S8x128.size inb_S8x128_S8x128_0_0).toLoadRect (View.loadsAt_vmem h_S8x128))
  Prog.lift (.store arg6 (Rect.unit (s := S8x128) ![0, 0] S8x128.size inb_S8x128_S8x128_0_0) (k0_pay41 v2214) Finset.univ (View.stores_vmem_bits_univ h_S8x128 rfl) (.inl rfl))
  pure (k0_pay40 v2214)

def agOp (i : Fin 31) : PG F PUnit :=
  Prog.lift (.enqueueDma arg6 (.remote (Dev.tc (agDev i d0)) (amMe arg7 d0) (.dma (semAt arg11 i)))
    (.dma (semMe d0 arg12)) harg6.wordExact ((View.wordExact_bits rfl).reshape _ _) ⟨⟨rfl, Or.inl rfl⟩, trivial⟩)

def agWait (i : Fin 31) : PG F PUnit :=
  Prog.lift (.waitDma2 (agSem arg12 d0 i) arg6 (amV arg7 d0 i) harg6.wordExact ((View.wordExact_bits rfl).reshape _ _))

def quantOp (a : F .f32) : PG F PUnit := do
  let v2786 : Vec F S32x8x128 .f32 ← Prog.lift (.load arg7 (Rect.unit (s := S32x8x128) ![0, 0, 0] S32x8x128.size inb_S32x8x128_S32x8x128_0_0_0).toLoadRect (View.loadsAt_vmem h_S32x8x128))
  let v2795 : Vec F S128x8192 .f32 ← loadO arg2
  let _v2808 : Vec F S128x8192 .f32 ← loadO arg2
  storeO arg2 (k0_pay43 a (k0_pay42 (Scalar.remsi (Scalar.divsi (Dev.word d0) 1#32) 32#32)) v2786 v2795)

def sendWait (i : Fin 31) : PG F PUnit :=
  Prog.lift (.waitDma2 (semAt arg8 i) (xrMe arg4 d0) (xsV arg3 d0 i)
    ((harg4.wordExact_slice rfl _ (k0_off2_wordsbf16 d0)).reshape _ _)
    (harg3.wordExact_slice rfl _ (k0_off3_wordsbf16 d0 i)))

def agSendWait (i : Fin 31) : PG F PUnit :=
  Prog.lift (.waitDma2 (semAt arg11 i) (amMe arg7 d0) arg6 ((View.wordExact_bits rfl).reshape _ _) harg6.wordExact)

/-- What a device runs once it knows its number. -/
def bodyAt : PG F PUnit := do
  each 31 (sigOp d0)
  semWaitWord (SemArray.scalar (sig.barrier 0 rfl) : Sems sig S_).sem 31#32
  castOp arg0 arg3 harg3
  each 31 (sendOp arg3 harg3 arg4 harg4 arg8 arg9 d0)
  fetches arg1 arg5 arg10 d0
  step0 arg1 arg2 arg3 arg5 arg10 d0
  each 28 (fun i => do
    fetch6 arg1 arg5 arg10 d0 ⟨i.val + 1, by omega⟩
    stepOp arg1 arg2 arg4 harg4 arg5 arg9 arg10 d0 ⟨i.val, by omega⟩)
  each 3 (fun i => stepOp arg1 arg2 arg4 harg4 arg5 arg9 arg10 d0 ⟨28 + i.val, by omega⟩)
  let a ← boxOp arg2 arg6
  each 31 (agOp arg6 harg6 arg7 arg11 arg12 d0)
  each 31 (agWait arg6 harg6 arg7 arg12 d0)
  quantOp arg2 arg7 d0 a
  each 31 (sendWait arg3 harg3 arg4 harg4 arg8 d0)
  each 31 (agSendWait arg6 harg6 arg7 arg11 d0)

/-- The printed body is these loops. -/
theorem cc0_body_eq :
    cc0_body (F := F) arg0 harg0 arg1 harg1 arg2 harg2 arg3 harg3 arg4 harg4 arg5 harg5 arg6 harg6 arg7 harg7 arg8 arg9 arg10 arg11 arg12
      = (do
          let d0 : Dev nD ← Prog.lift .deviceId
          bodyAt arg0 arg1 arg2 arg3 harg3 arg4 harg4 arg5 arg6 harg6 arg7 arg8 arg9 arg10 arg11 arg12 d0) := by
  sl_kernel_rfl

end Ops

end Cert.K01
-- ==== Proof.Base.lean ====
/-
# Cells, pieces of buffers, contents and the schedule

What each semaphore of a device stands for, the pieces the buffers are held in, what each piece holds when
a semaphore hands it over, and the schedule of the hand-overs.
-/
module

public import proofs.«01_k».proof.Proof.Loops
public import proofs.«01_k».proof.Proof.Gen.KernelIdeal.Launch
public import Idealize.ShloMosaic.Lib.Pipeline.Launch
public import Idealize.ShloMosaic.Lib.Pipeline.Kit
public import Idealize.ShloMosaic.Lib.ValueLayout

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.ValueIdx (ix2 ix3)

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices around -/

set_option backward.proofsInPublic true in
/-- The device `k` places on. -/
def fwd (c : Dev nD) (k : ℕ) : Dev nD := ⟨(c.val + k) % 32, Nat.mod_lt _ (by decide)⟩
set_option backward.proofsInPublic true in
/-- The device `k` places back. -/
def bwd (c : Dev nD) (k : ℕ) : Dev nD := ⟨(c.val + (32 - k % 32)) % 32, Nat.mod_lt _ (by decide)⟩

theorem dev_lt (c : Dev nD) : c.val < 32 := c.isLt
theorem fwd_val (c : Dev nD) (k : ℕ) : (fwd c k).val = (c.val + k) % 32 := rfl
theorem bwd_val (c : Dev nD) (k : ℕ) : (bwd c k).val = (c.val + (32 - k % 32)) % 32 := rfl
theorem fwd_bwd (c : Dev nD) (k : ℕ) : fwd (bwd c k) k = c :=
  Fin.ext (by rw [fwd_val, bwd_val]; have := dev_lt c; omega)
theorem bwd_fwd (c : Dev nD) (k : ℕ) : bwd (fwd c k) k = c :=
  Fin.ext (by rw [bwd_val, fwd_val]; have := dev_lt c; omega)
theorem fwd_ne (c : Dev nD) {k : ℕ} (h : 1 ≤ k) (h' : k < 32) : fwd c k ≠ c := fun e => by
  have := congrArg Fin.val e; rw [fwd_val] at this; have := dev_lt c; omega
theorem bwd_ne (c : Dev nD) {k : ℕ} (h : 1 ≤ k) (h' : k < 32) : bwd c k ≠ c := fun e => by
  have := congrArg Fin.val e; rw [bwd_val] at this; have := dev_lt c; omega

/-! ## The semaphores -/

/-- The runtime's barrier semaphore. -/
abbrev barS : Sem sig := (SemArray.scalar (sig.barrier 0 rfl) : Sems sig S_).sem

/-- The kernel's own semaphores: four families of 32 (departures of the blocks of `x`, their landings, departures of the
    maxima, their landings) and the four slots' two halves of the blocks of `w`. -/
abbrev Own := (Fin 4 × Fin 32) ⊕ (Fin 4 × Fin 2)
/-- All the semaphores of the protocol: the barrier and the own ones. -/
abbrev Ck := Option Own

def semBase : Fin 4 → ℕ := ![2, 34, 74, 106]
theorem semBase_lt (a : Fin 4) (i : Fin 32) : semBase a + i.val < 138 := by revert a i; decide
theorem semW_lt (s : Fin 4) (h : Fin 2) : 66 + 2 * s.val + h.val < 138 := by omega

set_option backward.proofsInPublic true in
def osem : Own → SemLoc sig
  | .inl (a, i) => .dma ⟨semBase a + i.val, semBase_lt a i⟩
  | .inr (s, h) => .dma ⟨66 + 2 * s.val + h.val, semW_lt s h⟩

def csem : Ck → SemLoc sig
  | none => .reg barS
  | some k => osem k

theorem osem_inj : Function.Injective osem := by
  rintro (⟨a, i⟩ | ⟨s, h⟩) (⟨a', i'⟩ | ⟨s', h'⟩) e
  · have e := congrArg Fin.val (SemLoc.dma.inj e)
    have : semBase a + i.val = semBase a' + i'.val := e
    have : a = a' ∧ i = i' := by
      fin_cases a <;> fin_cases a' <;> simp [semBase] at this ⊢ <;> omega
    rw [this.1, this.2]
  · have e := congrArg Fin.val (SemLoc.dma.inj e)
    have : semBase a + i.val = 66 + 2 * s'.val + h'.val := e
    exfalso; fin_cases a <;> simp [semBase] at this <;> omega
  · have e := congrArg Fin.val (SemLoc.dma.inj e)
    have : 66 + 2 * s.val + h.val = semBase a' + i'.val := e
    exfalso; fin_cases a' <;> simp [semBase] at this <;> omega
  · have e := congrArg Fin.val (SemLoc.dma.inj e)
    have : 66 + 2 * s.val + h.val = 66 + 2 * s'.val + h'.val := e
    have : s = s' ∧ h = h' := ⟨Fin.ext (by omega), Fin.ext (by omega)⟩
    rw [this.1, this.2]

theorem osem_ne_bar (k : Own) : osem k ≠ .reg barS := by
  rcases k with ⟨a, i⟩ | ⟨s, h⟩ <;> exact fun e => by cases e

theorem csem_inj : Function.Injective csem := by
  rintro (_ | k) (_ | k') e
  · rfl
  · exact absurd e.symm (osem_ne_bar k')
  · exact absurd e (osem_ne_bar k)
  · exact congrArg some (osem_inj e)

/-- The place of a semaphore in the protocol, if it has one. -/
def kindOf (sm : SemLoc sig) : Option Ck := by
  classical exact if h : ∃ k, csem k = sm then some h.choose else none

theorem kindOf_csem (k : Ck) : kindOf (csem k) = some k := by
  unfold kindOf
  rw [dif_pos ⟨k, rfl⟩]
  exact congrArg some (csem_inj (Exists.choose_spec (⟨k, rfl⟩ : ∃ k', csem k' = csem k)))

abbrev cell (c : Dev nD) (k : Ck) : GSem nD τ sig := ((c : Thread nD τ), csem k)

abbrev kBar : Ck := none
abbrev kSend (k : ℕ) : Ck := some (.inl (0, ⟨k % 32, Nat.mod_lt _ (by decide)⟩))
abbrev kRecv (j : Dev nD) : Ck := some (.inl (1, j))
abbrev kAgs (k : ℕ) : Ck := some (.inl (2, ⟨k % 32, Nat.mod_lt _ (by decide)⟩))
abbrev kAgr (j : Dev nD) : Ck := some (.inl (3, j))
abbrev kW (k : ℕ) (h : Fin 2) : Ck := some (.inr (slotOf k, h))

/-! ## The pieces of the buffers -/

/-- Rows of block `j` of the cast `x`. -/
def xsSet (j : Dev nD) : Finset S4096x128.Idx := Finset.univ.filter fun y => (y 0).val / 128 = j.val
/-- The place of device `j`'s rows in a landing buffer. -/
def rowSet (j : Dev nD) : Finset S32x128x128.Idx := Finset.univ.filter fun y => (y 0).val = j.val
/-- A half of a slot. -/
def wtSet (s : Fin 4) (h : Fin 2) : Finset S4x128x8192.Idx :=
  Finset.univ.filter fun y => (y 0).val = s.val ∧ (y 1).val / 64 = h.val
/-- The place of device `j`'s maximum. -/
def amSet (j : Dev nD) : Finset S32x8x128.Idx := Finset.univ.filter fun y => (y 0).val = j.val
/-- A half of block `j` of `w`. -/
def wSet (j : Dev nD) (h : Fin 2) : Finset S4096x8192.Idx :=
  Finset.univ.filter fun y => (y 0).val / 64 = 2 * j.val + h.val

abbrev xM : Memref sig .tc .vmem S4096x128 .f32 := Memref.whole cc0_stg0_0
abbrev wM : Memref sig .tc .hbm S4096x8192 .f32 := Memref.whole main_arg1
abbrev oM : Memref sig .tc .vmem S128x8192 .f32 := Memref.whole cc0_stg1_0
abbrev sM : Memref sig .tc .vmem S4096x128 .bf16 := Memref.whole cc0_scratch0
abbrev rM : Memref sig .tc .vmem S32x128x128 .bf16 := Memref.whole cc0_scratch1
abbrev tM : Memref sig .tc .vmem S4x128x8192 .f32 := Memref.whole cc0_scratch2
abbrev bM : Memref sig .tc .vmem S8x128 .f32 := Memref.whole cc0_scratch3
abbrev aM : Memref sig .tc .vmem S32x8x128 .f32 := Memref.whole cc0_scratch4

abbrev lX (c : Dev nD) : Loc nD τ sig := (c : Thread nD τ).loc cc0_stg0_0
abbrev lO (c : Dev nD) : Loc nD τ sig := (c : Thread nD τ).loc cc0_stg1_0
abbrev lS (c : Dev nD) : Loc nD τ sig := (c : Thread nD τ).loc cc0_scratch0
abbrev lR (c : Dev nD) : Loc nD τ sig := (c : Thread nD τ).loc cc0_scratch1
abbrev lT (c : Dev nD) : Loc nD τ sig := (c : Thread nD τ).loc cc0_scratch2
abbrev lB (c : Dev nD) : Loc nD τ sig := (c : Thread nD τ).loc cc0_scratch3
abbrev lA (c : Dev nD) : Loc nD τ sig := (c : Thread nD τ).loc cc0_scratch4
abbrev lW (c : Dev nD) : Loc nD τ sig := (c : Thread nD τ).loc main_arg1

def xsPts (c j : Dev nD) (f : Vec F S4096x128 .bf16) : sProp 𝕄 := lS c ↦[xsSet j]{fullShare} f
def rowPts (c j : Dev nD) (f : Vec F S32x128x128 .bf16) : sProp 𝕄 := lR c ↦[rowSet j]{fullShare} f
def wtPts (c : Dev nD) (s : Fin 4) (h : Fin 2) (f : Vec F S4x128x8192 .f32) : sProp 𝕄 := lT c ↦[wtSet s h]{fullShare} f
def boxPts (c : Dev nD) (q : PosShare TreeShare) (f : Vec F S8x128 .f32) : sProp 𝕄 := lB c ↦{q} f
def amPts (c j : Dev nD) (f : Vec F S32x8x128 .f32) : sProp 𝕄 := lA c ↦[amSet j]{fullShare} f
def wPts (c j : Dev nD) (h : Fin 2) (f : Vec F S4096x8192 .f32) : sProp 𝕄 := lW c ↦[wSet j h]{fullShare} f

/-! ## The contents -/

section Contents

variable (m : (ℓ : Loc nD τ sig) → Buf (Elt F) ℓ)

/-- A device's columns of `x`. -/
def X (c : Dev nD) : Vec F S4096x128 .f32 := (win0_0.blk (0 : Fin 1)).view.read (Elt F) (m ((c : Thread nD τ).loc main_arg0))
/-- The same, cast. -/
def XS (c : Dev nD) : Vec F S4096x128 .bf16 := k0_pay1 (X m c)
/-- `w` on a device. -/
def W (c : Dev nD) : Vec F S4096x8192 .f32 := m (lW c)

set_option backward.proofsInPublic true in
/-- What has landed on device `c`, by the device it comes from. -/
def XR (c : Dev nD) : Vec F S32x128x128 .bf16 := fun y =>
  XS m (⟨(y 0).val, (y 0).isLt⟩ : Dev nD) (ix2 (⟨128 * c.val + (y 1).val, by
    have := dev_lt c; have : (y 1).val < 128 := (y 1).isLt; omega⟩ : Fin 4096) (⟨(y 2).val, (y 2).isLt⟩ : Fin 128))

set_option backward.proofsInPublic true in
/-- What the block of `w` of step `k` fills its slot with. -/
def WT (c : Dev nD) (k : ℕ) : Vec F S4x128x8192 .f32 := fun y =>
  W m c (ix2 (⟨128 * (bwd c k).val + (y 1).val, by
    have := dev_lt (bwd c k); have : (y 1).val < 128 := (y 1).isLt; omega⟩ : Fin 4096) (⟨(y 2).val, (y 2).isLt⟩ : Fin 8192))

set_option backward.proofsInPublic true in
/-- A device's own rows of its cast columns. -/
def xOwn (c : Dev nD) : Vec F S128x128 .bf16 := fun y =>
  XS m c (ix2 (⟨128 * c.val + (y 0).val, by
    have := dev_lt c; have : (y 0).val < 128 := (y 0).isLt; omega⟩ : Fin 4096) (⟨(y 1).val, (y 1).isLt⟩ : Fin 128))

set_option backward.proofsInPublic true in
/-- Device `c`'s rows of device `j`'s cast columns. -/
def xRow (c j : Dev nD) : Vec F S1x128x128 .bf16 := fun y =>
  XS m j (ix2 (⟨128 * c.val + (y 1).val, by
    have := dev_lt c; have : (y 1).val < 128 := (y 1).isLt; omega⟩ : Fin 4096) (⟨(y 2).val, (y 2).isLt⟩ : Fin 128))

set_option backward.proofsInPublic true in
/-- Block `j` of `w`. -/
def wBlk (c j : Dev nD) : Vec F S1x128x8192 .f32 := fun y =>
  W m c (ix2 (⟨128 * j.val + (y 1).val, by
    have := dev_lt j; have : (y 1).val < 128 := (y 1).isLt; omega⟩ : Fin 4096) (⟨(y 2).val, (y 2).isLt⟩ : Fin 8192))

/-- The product after step `k`. -/
def out (c : Dev nD) : ℕ → FVec F S128x8192 .f32
  | 0 => k0_pay2 (xOwn m c) (wBlk m c (bwd c 0))
  | k + 1 => gemm (xRow m c (bwd c (k + 1))) (wBlk m c (bwd c (k + 1))) (out c k)

/-- A device's own maximum. -/
def AM (c : Dev nD) : F .f32 := k0_pay40 (out m c 31)
/-- The box it is sent in. -/
def BX (c : Dev nD) : Vec F S8x128 .f32 := k0_pay41 (out m c 31)

set_option backward.proofsInPublic true in
/-- All the devices' maxima, one a row. -/
def AA : Vec F S32x8x128 .f32 := fun y => AM m (⟨(y 0).val, (y 0).isLt⟩ : Dev nD)

/-- A device's result. -/
def outF (c : Dev nD) : FVec F S128x8192 .f32 :=
  k0_pay43 (AM m c) (k0_pay42 (Scalar.remsi (Scalar.divsi (Dev.word c) 1#32) 32#32)) (AA m) (out m c 31)

/-! ## The schedule -/

def N1 : ℕ := (xrMe rM (0 : Dev nD)).view.dmaCredit
def N2 : ℕ := (wtV tM 0 0).view.dmaCredit
def N3 : ℕ := (amMe aM (0 : Dev nD)).view.dmaCredit

def dutiesK (c : Dev nD) : Ck → ℕ → Finset (Dev nD)
  | none, 0 => Finset.univ.erase c
  | some (.inl (0, i)), 0 => if i.val = 0 then ∅ else {0}
  | some (.inl (1, i)), 0 => if i = c then ∅ else {0}
  | some (.inl (2, i)), 0 => if i.val = 0 then ∅ else {0}
  | some (.inl (3, i)), 0 => if i = c then ∅ else {0}
  | some (.inr _), r => if r < 8 then {0} else ∅
  | _, _ => ∅

def amountK : Ck → ℕ
  | none => 1
  | some (.inl (0, _)) => N1
  | some (.inl (1, _)) => N1
  | some (.inl (2, _)) => N3
  | some (.inl (3, _)) => N3
  | some (.inr _) => N2

def payK (c : Dev nD) : Ck → ℕ → Dev nD → sProp 𝕄
  | none, _, p => iprop((∃ f, rowPts p c f) ∗ ∃ f, amPts p c f)
  | some (.inl (0, i)), _, _ => xsPts c (fwd c i.val) (XS m c)
  | some (.inl (1, j)), _, _ => rowPts c j (XR m c)
  | some (.inl (2, i)), _, _ => boxPts c (shareTokN fullShare i.val) (BX m c)
  | some (.inl (3, j)), _, _ => amPts c j (AA m)
  | some (.inr (s, h)), r, _ => iprop(wtPts c s h (WT m c (4 * r + s.val)) ∗ wPts c (bwd c (4 * r + s.val)) h (W m c))

theorem N1_pos : 0 < N1 := View.dmaCredit_pos _ (by decide)
theorem N2_pos : 0 < N2 := View.dmaCredit_pos _ (by decide)
theorem N3_pos : 0 < N3 := View.dmaCredit_pos _ (by decide)

theorem amountK_pos (k : Ck) : 0 < amountK k := by
  rcases k with _ | ⟨a, i⟩ | ⟨s, h⟩
  · exact Nat.one_pos
  · fin_cases a
    · exact N1_pos
    · exact N1_pos
    · exact N3_pos
    · exact N3_pos
  · exact N2_pos

instance payK_storable (c : Dev nD) (k : Ck) (r : ℕ) (d : Dev nD) : BI.Storable (upEmb : UEmb _ 𝕄) (payK m c k r d) := by
  rcases k with _ | ⟨a, i⟩ | ⟨s, h⟩
  · show BI.Storable upEmb (iprop((∃ f, rowPts d c f) ∗ ∃ f, amPts d c f)); unfold rowPts amPts; infer_instance
  · fin_cases a
    · show BI.Storable upEmb (xsPts c (fwd c i.val) (XS m c)); unfold xsPts; infer_instance
    · show BI.Storable upEmb (rowPts c i (XR m c)); unfold rowPts; infer_instance
    · show BI.Storable upEmb (boxPts c (shareTokN fullShare i.val) (BX m c)); unfold boxPts; infer_instance
    · show BI.Storable upEmb (amPts c i (AA m)); unfold amPts; infer_instance
  · show BI.Storable upEmb (iprop(wtPts c s h (WT m c (4 * r + s.val)) ∗ wPts c (bwd c (4 * r + s.val)) h (W m c)))
    unfold wtPts wPts; infer_instance

def Rd : Rounds.Schedule (GSem nD τ sig) (Dev nD) 𝕄 where
  duties g r := match kindOf g.2 with | some k => dutiesK g.1.1 k r | none => ∅
  unitless _ := False
  amount g _ _ := match kindOf g.2 with | some k => amountK k | none => 1
  payload g r d := match kindOf g.2 with | some k => payK m g.1.1 k r d | none => iprop(emp)
  amount_pos g _ _ _ := by
    split
    · exact amountK_pos _
    · exact Nat.one_pos

instance Rd_payload_storable (g : GSem nD τ sig) (r : ℕ) (d : Dev nD) : BI.Storable (upEmb : UEmb _ 𝕄) ((Rd m).payload g r d) := by
  dsimp only [Rd]
  split <;> infer_instance

theorem duties_cell (c : Dev nD) (k : Ck) (r : ℕ) : (Rd m).duties (cell c k) r = dutiesK c k r := by
  dsimp only [Rd]; rw [kindOf_csem]
theorem amount_cell (c : Dev nD) (k : Ck) (r : ℕ) (d : Dev nD) : (Rd m).amount (cell c k) r d = amountK k := by
  dsimp only [Rd]; rw [kindOf_csem]
theorem payload_cell (c : Dev nD) (k : Ck) (r : ℕ) (d : Dev nD) : (Rd m).payload (cell c k) r d = payK m c k r d := by
  dsimp only [Rd]; rw [kindOf_csem]

theorem expect_cell (c : Dev nD) (k : Ck) (r : ℕ) : (Rd m).expect (cell c k) r = (dutiesK c k r).card * amountK k := by
  unfold Schedule.expect Schedule.amountOf
  rw [duties_cell, Finset.sum_congr rfl fun d _ => amount_cell m c k r d, Finset.sum_const, smul_eq_mul]

end Contents

end Cert.K01
-- ==== Proof.Geom.lean ====
/-
# What the operations' views are

The semaphores and devices that the operations name, the sets of elements under their views, and what a transfer
through two of them leaves.
-/
module

public import proofs.«01_k».proof.Proof.Base
public import Idealize.ShloMosaic.Lib.Pipeline.Value

@[expose] public section

set_option maxRecDepth 16384

noncomputable section

namespace Cert.K01

open Cert.KernelIdeal Cert.KernelIdeal.Gen
open Idealize.ShloMosaic
open Idealize.ShloMosaic.TcCoe
open Idealize.ShloMosaic.ValueIdx

variable {F : FTy → Type} [FloatOps F]

/-! ## Devices -/

theorem sigDev_eq (c : Dev nD) (i : Fin 31) : sigDev i c = fwd c (i.val + 1) := by revert c i; decide +kernel
theorem sendDev_eq (c : Dev nD) (i : Fin 31) : sendDev i c = fwd c (i.val + 1) := by revert c i; decide +kernel
theorem agDev_eq (c : Dev nD) (i : Fin 31) : agDev i c = fwd c (i.val + 1) := by revert c i; decide +kernel

/-! ## Semaphores -/

theorem semSend_eq (i : Fin 31) : (SemLoc.dma (semAt cc0_scratch5 i) : SemLoc sig) = csem (kSend (i.val + 1)) := by
  revert i; decide +kernel
theorem semAgs_eq (i : Fin 31) : (SemLoc.dma (semAt cc0_scratch8 i) : SemLoc sig) = csem (kAgs (i.val + 1)) := by
  revert i; decide +kernel
theorem semRecvMe_eq (c : Dev nD) : (SemLoc.dma (semMe c cc0_scratch6) : SemLoc sig) = csem (kRecv c) := by
  revert c; decide +kernel
theorem semAgrMe_eq (c : Dev nD) : (SemLoc.dma (semMe c cc0_scratch9) : SemLoc sig) = csem (kAgr c) := by
  revert c; decide +kernel
theorem recvSem_eq (c : Dev nD) (i : Fin 31) : (SemLoc.dma (recvSem cc0_scratch6 c i) : SemLoc sig) = csem (kRecv (bwd c (i.val + 1))) := by
  revert c i; decide +kernel
theorem agSem_eq (c : Dev nD) (i : Fin 31) : (SemLoc.dma (agSem cc0_scratch9 c i) : SemLoc sig) = csem (kAgr (fwd c (i.val + 1))) := by
  revert c i; decide +kernel
theorem wSem_eq (s : Fin 4) (h : Fin 2) : (SemLoc.dma (wSem cc0_scratch7 s h) : SemLoc sig) = csem (some (.inr (s, h))) := by
  revert s h; decide +kernel

/-! ## Sets -/

theorem mem_unit2 {n k : ℕ} (off size : Fin 2 → ℕ) (inb) (y : (⟨2, ![n, k]⟩ : Shape).Idx) :
    y ∈ (Rect.unit (s := ⟨2, ![n, k]⟩) off size inb).set
      ↔ (off 0 ≤ (y 0).val ∧ (y 0).val < off 0 + size 0) ∧ off 1 ≤ (y 1).val ∧ (y 1).val < off 1 + size 1 :=
  (Rect.mem_set_unit ..).trans Fin.forall_fin_two

theorem mem_unit3 {n k l : ℕ} (off size : Fin 3 → ℕ) (inb) (y : (⟨3, ![n, k, l]⟩ : Shape).Idx) :
    y ∈ (Rect.unit (s := ⟨3, ![n, k, l]⟩) off size inb).set
      ↔ (off 0 ≤ (y 0).val ∧ (y 0).val < off 0 + size 0) ∧ (off 1 ≤ (y 1).val ∧ (y 1).val < off 1 + size 1)
        ∧ off 2 ≤ (y 2).val ∧ (y 2).val < off 2 + size 2 :=
  (Rect.mem_set_unit ..).trans (Fin.forall_fin_succ.trans (and_congr Iff.rfl Fin.forall_fin_two))

theorem xsV_set (c : Dev nD) (i : Fin 31) : (xsV sM c i).view.set = xsSet (fwd c (i.val + 1)) := by
  show ((View.whole cc0_scratch0).slice _).set = _
  rw [View.set_slice_whole]
  ext y
  rw [xsSet, Finset.mem_filter]
  refine (mem_unit2 _ _ _ y).trans ?_
  rw [k0_off3_eq]
  have h0 : (y 0).val < 4096 := (y 0).isLt
  have h1 : (y 1).val < 128 := (y 1).isLt
  have hf := fwd_val c (i.val + 1)
  constructor
  · rintro ⟨⟨a, b⟩, -⟩
    refine ⟨Finset.mem_univ _, ?_⟩
    change 128 * ((c.val + i.val + 1) % 32) ≤ (y 0).val at a
    change (y 0).val < 128 * ((c.val + i.val + 1) % 32) + 128 at b
    show (y 0).val / 128 = _
    rw [hf]; omega
  · rintro ⟨-, a⟩
    change (y 0).val / 128 = _ at a
    rw [hf] at a
    refine ⟨⟨?_, ?_⟩, ?_, ?_⟩
    · show 128 * ((c.val + i.val + 1) % 32) ≤ (y 0).val; omega
    · show (y 0).val < 128 * ((c.val + i.val + 1) % 32) + 128; omega
    · exact Nat.zero_le _
    · show (y 1).val < 0 + 128; omega

/-- A block of 64 rows of `w`. -/
theorem wBk_set (off : Fin 2 → ℕ) (inb) (j : Dev nD) (h : Fin 2) (ho : off = ![128 * j.val + 64 * h.val, 0]) :
    (wM.slice (Rect.unit (s := S4096x8192) off S64x8192.size inb) (fun _ => rfl)).view.set = wSet j h := by
  subst ho
  show ((View.whole main_arg1).slice _).set = _
  rw [View.set_slice_whole]
  ext y
  rw [wSet, Finset.mem_filter]
  refine (mem_unit2 _ _ _ y).trans ?_
  have h0 : (y 0).val < 4096 := (y 0).isLt
  have h1 : (y 1).val < 8192 := (y 1).isLt
  constructor
  · rintro ⟨⟨a, b⟩, -⟩
    refine ⟨Finset.mem_univ _, ?_⟩
    change 128 * j.val + 64 * h.val ≤ (y 0).val at a
    change (y 0).val < 128 * j.val + 64 * h.val + 64 at b
    show (y 0).val / 64 = _
    omega
  · rintro ⟨-, a⟩
    change (y 0).val / 64 = _ at a
    refine ⟨⟨?_, ?_⟩, ?_, ?_⟩
    · show 128 * j.val + 64 * h.val ≤ (y 0).val; omega
    · show (y 0).val < 128 * j.val + 64 * h.val + 64; omega
    · exact Nat.zero_le _
    · show (y 1).val < 0 + 8192; omega

/-- One leading index of a buffer of rank three, all of the other two. -/
theorem mem_lead {n a b : ℕ} (off : Fin 3 → ℕ) (j : ℕ) (inb : ∀ x, off x + (⟨3, ![1, a, b]⟩ : Shape).size x ≤ (⟨3, ![n, a, b]⟩ : Shape).size x)
    (ho : off = ![j, 0, 0]) (y : (⟨3, ![n, a, b]⟩ : Shape).Idx) :
    y ∈ (Rect.unit (s := ⟨3, ![n, a, b]⟩) off (⟨3, ![1, a, b]⟩ : Shape).size inb).set ↔ (y 0).val = j := by
  subst ho
  refine (mem_unit3 _ _ _ y).trans ?_
  have h1 : (y 1).val < a := (y 1).isLt
  have h2 : (y 2).val < b := (y 2).isLt
  constructor
  · rintro ⟨⟨p, q⟩, -⟩
    change j ≤ (y 0).val at p
    change (y 0).val < j + 1 at q
    omega
  · intro p
    refine ⟨⟨?_, ?_⟩, ⟨?_, ?_⟩, ?_, ?_⟩
    · show j ≤ (y 0).val; omega
    · show (y 0).val < j + 1; omega
    · exact Nat.zero_le _
    · show (y 1).val < 0 + a; omega
    · exact Nat.zero_le _
    · show (y 2).val < 0 + b; omega

theorem xrMe_set (c : Dev nD) : (xrMe rM c).view.set = rowSet c := by
  show (((View.whole cc0_scratch1).slice _).reshape _ _).set = _
  rw [View.set_reshape, View.set_slice_whole]
  ext y
  rw [rowSet, Finset.mem_filter]
  refine (mem_lead (k0_off2 c) c.val (k0_off2_inb c) (k0_off2_eq c) y).trans ⟨fun h => ⟨Finset.mem_univ _, h⟩, fun h => h.2⟩

theorem amMe_set (c : Dev nD) : (amMe aM c).view.set = amSet c := by
  show (((View.whole cc0_scratch4).slice _).reshape _ _).set = _
  rw [View.set_reshape, View.set_slice_whole]
  ext y
  rw [amSet, Finset.mem_filter]
  refine (mem_lead (k0_off11 c) c.val (k0_off11_inb c) (k0_off11_eq c) y).trans ⟨fun h => ⟨Finset.mem_univ _, h⟩, fun h => h.2⟩

theorem wtV_set (s : Fin 4) (h : Fin 2) : (wtV tM s h).view.set = wtSet s h := by
  show (((View.whole cc0_scratch2).slice _).reshape _ _).set = _
  rw [View.set_reshape, View.set_slice_whole]
  ext y
  rw [wtSet, Finset.mem_filter]
  refine (mem_unit3 _ _ _ y).trans ?_
  have h1 : (y 1).val < 128 := (y 1).isLt
  have h2 : (y 2).val < 8192 := (y 2).isLt
  constructor
  · rintro ⟨⟨p, q⟩, ⟨p', q'⟩, -⟩
    change s.val ≤ (y 0).val at p
    change (y 0).val < s.val + 1 at q
    change 64 * h.val ≤ (y 1).val at p'
    change (y 1).val < 64 * h.val + 64 at q'
    refine ⟨Finset.mem_univ _, ?_, ?_⟩
    · show (y 0).val = s.val; omega
    · show (y 1).val / 64 = h.val; omega
  · rintro ⟨-, p, p'⟩
    change (y 0).val = s.val at p
    change (y 1).val / 64 = h.val at p'
    refine ⟨⟨?_, ?_⟩, ⟨?_, ?_⟩, ?_, ?_⟩
    · show s.val ≤ (y 0).val; omega
    · show (y 0).val < s.val + 1; omega
    · show 64 * h.val ≤ (y 1).val; omega
    · show (y 1).val < 64 * h.val + 64; omega
    · exact Nat.zero_le _
    · show (y 2).val < 0 + 8192; omega

/-! ## What lands -/

section Land

variable (m : (ℓ : Loc nD τ sig) → Buf (Elt F) ℓ)

/-- What `c` sends to `fwd c (i + 1)` is what it is to hold at `c`'s place. -/
theorem land_row (c : Dev nD) (i : Fin 31) (fd : Vec F S32x128x128 .bf16) :
    ∀ y ∈ rowSet c, (xrMe rM c).view.write (Elt F) fd ((xsV sM c i).view.read (Elt F) (XS m c)) Finset.univ y
      = XR m (fwd c (i.val + 1)) y := by
  have hr : (xsV sM c i).view.read (Elt F) (XS m c) = (xrMe rM c).view.read (Elt F) (XR m (fwd c (i.val + 1))) := by
    funext x
    obtain ⟨p, q, rfl⟩ : ∃ p q : Fin 128, x = ix2 p q := ⟨x 0, x 1, eq_ix2 x⟩
    have e0 : ∀ a : Fin 3, k0_off2 c a = (![c.val, 0, 0] : Fin 3 → ℕ) a := fun a => congrFun (k0_off2_eq c) a
    have e1 : ∀ a : Fin 2, k0_off3 c (BitVec.ofNat 32 (1 + i.val)) a = (![128 * ((c.val + i.val + 1) % 32), 0] : Fin 2 → ℕ) a :=
      fun a => congrFun (k0_off3_eq c i) a
    refine Eq.trans ?_ (congrArg (fun z => XR m (fwd c (i.val + 1))
      ((Rect.unit (s := S32x128x128) (k0_off2 c) S1x128x128.size (k0_off2_inb c)).emb z))
        (reshapeEquiv_ix2_1ab squeezes_S1x128x128_S128x128.numel_eq p q)).symm
    show XS m c ((Rect.unit (s := S4096x128) (k0_off3 c (BitVec.ofNat 32 (1 + i.val))) S128x128.size (k0_off3_inb c i)).emb (ix2 p q)) = _
    unfold XR
    refine Eq.trans ?_ (congrArg (fun d => XS m d _) (Fin.ext (by
        show k0_off2 c 0 + 1 * 0 = c.val
        rw [e0]; rfl) : _ = c)).symm
    refine congrArg (XS m c) (funext fun a => Fin.ext ?_)
    match a with
    | ⟨0, _⟩ =>
      show k0_off3 c (BitVec.ofNat 32 (1 + i.val)) 0 + 1 * p.val = 128 * (fwd c (i.val + 1)).val + (k0_off2 c 1 + 1 * p.val)
      rw [e0, e1, fwd_val]
      show 128 * ((c.val + i.val + 1) % 32) + 1 * p.val = 128 * ((c.val + (i.val + 1)) % 32) + (0 + 1 * p.val)
      rw [show c.val + (i.val + 1) = c.val + i.val + 1 by omega]; omega
    | ⟨1, _⟩ =>
      show k0_off3 c (BitVec.ofNat 32 (1 + i.val)) 1 + 1 * q.val = k0_off2 c 2 + 1 * q.val
      rw [e0, e1]; rfl
  intro y hy
  rw [hr, View.write_read_eq_piecewise]
  exact Finset.piecewise_eq_of_mem _ _ _ (by rw [View.setOn_univ, xrMe_set]; exact hy)

theorem pay41_eq (v : Vec F S128x8192 .f32) : k0_pay41 v = broadcast S8x128 (k0_pay40 v) := by
  unfold k0_pay41
  exact shapeCast_self _ _

theorem pay41_apply (v : Vec F S128x8192 .f32) (y : S8x128.Idx) : k0_pay41 v y = k0_pay40 v :=
  (congrFun (pay41_eq v) y).trans (broadcast_apply (s := S8x128) (k0_pay40 v) y)

set_option backward.proofsInPublic true in
theorem land_am_of (A : Dev nD → F .f32) (c : Dev nD) (B : Vec F S8x128 .f32) (hB : ∀ y, B y = A c) (fd : Vec F S32x8x128 .f32) :
    ∀ y ∈ amSet c, (amMe aM c).view.write (Elt F) fd (bM.view.read (Elt F) B) Finset.univ y
      = A (⟨(y 0).val, (y 0).isLt⟩ : Dev nD) := by
  have hr : bM.view.read (Elt F) B
      = (amMe aM c).view.read (Elt F) (fun y : S32x8x128.Idx => A (⟨(y 0).val, (y 0).isLt⟩ : Dev nD)) := by
    funext x
    refine (hB x).trans (congrArg A (Fin.ext ?_))
    have h : (amMe aM c).view.emb x ∈ amSet c := by
      rw [← amMe_set]; exact Finset.mem_map_of_mem _ (Finset.mem_univ x)
    exact (Finset.mem_filter.mp h).2.symm
  intro y hy
  rw [hr, View.write_read_eq_piecewise]
  exact Finset.piecewise_eq_of_mem _ _ _ (by rw [View.setOn_univ, amMe_set]; exact hy)

/-- The maximum `c` sends is what is to lie at its place. -/
theorem land_am (c : Dev nD) (fd : Vec F S32x8x128 .f32) :
    ∀ y ∈ amSet c, (amMe aM c).view.write (Elt F) fd (bM.view.read (Elt F) (BX m c)) Finset.univ y = AA m y :=
  land_am_of (AM m) c (BX m c) (pay41_apply (out m c 31)) fd

/-- A block of `w` fetched into a slot. -/
theorem land_w (c : Dev nD) (k : ℕ) (s : Fin 4) (h : Fin 2) (off : Fin 2 → ℕ) (inb) (ho : off = ![128 * (bwd c k).val + 64 * h.val, 0])
    (fd : Vec F S4x128x8192 .f32) :
    ∀ y ∈ wtSet s h, (wtV tM s h).view.write (Elt F) fd
        ((wM.slice (Rect.unit (s := S4096x8192) off S64x8192.size inb) (fun _ => rfl)).view.read (Elt F) (W m c)) Finset.univ y
      = WT m c k y := by
  have hr : (wM.slice (Rect.unit (s := S4096x8192) off S64x8192.size inb) (fun _ => rfl)).view.read (Elt F) (W m c)
      = (wtV tM s h).view.read (Elt F) (WT m c k) := by
    subst ho
    funext x
    obtain ⟨p, q, rfl⟩ : ∃ (p : Fin 64) (q : Fin 8192), x = ix2 p q := ⟨x 0, x 1, eq_ix2 x⟩
    refine Eq.trans ?_ (congrArg (fun z => WT m c k
      ((Rect.unit (s := S4x128x8192) ![s.val, 64 * h.val, 0] S1x64x8192.size (inb_wt s h)).emb z))
        (reshapeEquiv_ix2_1ab squeezes_S1x64x8192_S64x8192.numel_eq p q)).symm
    show W m c ((Rect.unit (s := S4096x8192) ![128 * (bwd c k).val + 64 * h.val, 0] S64x8192.size inb).emb (ix2 p q)) = _
    unfold WT
    refine congrArg (W m c) (funext fun a => Fin.ext ?_)
    match a with
    | ⟨0, _⟩ =>
      show 128 * (bwd c k).val + 64 * h.val + 1 * p.val = 128 * (bwd c k).val + (64 * h.val + 1 * p.val)
      omega
    | ⟨1, _⟩ => rfl
  intro y hy
  rw [hr, View.write_read_eq_piecewise]
  exact Finset.piecewise_eq_of_mem _ _ _ (by rw [View.setOn_univ, wtV_set]; exact hy)

/-! ## What the loads read -/

theorem read_own (c : Dev nD) :
    sM.view.readAt (Elt F) (Rect.unit (s := S4096x128) (k0_off7 c) S128x128.size (k0_off7_inb c)).toLoadRect (XS m c) = xOwn m c := by
  funext x
  show XS m c ((Rect.unit (s := S4096x128) (k0_off7 c) S128x128.size (k0_off7_inb c)).emb x) = _
  unfold xOwn
  have e : ∀ p : Fin 2, k0_off7 c p = (![128 * c.val, 0] : Fin 2 → ℕ) p := fun p => congrFun (k0_off7_eq c) p
  refine congrArg (XS m c) (funext fun a => Fin.ext ?_)
  match a with
  | ⟨0, _⟩ => show k0_off7 c 0 + 1 * (x 0).val = 128 * c.val + (x 0).val; rw [e]; show 128 * c.val + _ = _; omega
  | ⟨1, _⟩ => show k0_off7 c 1 + 1 * (x 1).val = (x 1).val; rw [e]; show 0 + _ = _; omega

theorem own_set (c : Dev nD) : ∀ y ∈ (Rect.unit (s := S4096x128) (k0_off7 c) S128x128.size (k0_off7_inb c)).set, y ∈ xsSet c := by
  intro y hy
  rw [Rect.mem_set_unit, k0_off7_eq] at hy
  have a := hy 0
  change 128 * c.val ≤ (y 0).val ∧ (y 0).val < 128 * c.val + 128 at a
  refine Finset.mem_filter.mpr ⟨Finset.mem_univ _, ?_⟩
  show (y 0).val / 128 = _
  omega

theorem off10_eq (c : Dev nD) (i : Fin 31) : k0_off10 c (BitVec.ofNat 32 (1 + i.val)) = ![(bwd c (i.val + 1)).val, 0, 0] := by
  rw [k0_off10_eq, bwd_val]
  have := dev_lt c
  congr 1
  omega

theorem read_row (c : Dev nD) (i : Fin 31) :
    rM.view.readAt (Elt F) (Rect.unit (s := S32x128x128) (k0_off10 c (BitVec.ofNat 32 (1 + i.val))) S1x128x128.size (k0_off10_inb c i)).toLoadRect (XR m c)
      = xRow m c (bwd c (i.val + 1)) := by
  funext x
  show XR m c ((Rect.unit (s := S32x128x128) (k0_off10 c (BitVec.ofNat 32 (1 + i.val))) S1x128x128.size (k0_off10_inb c i)).emb x) = _
  have e : ∀ p : Fin 3, k0_off10 c (BitVec.ofNat 32 (1 + i.val)) p = (![(bwd c (i.val + 1)).val, 0, 0] : Fin 3 → ℕ) p :=
    fun p => congrFun (off10_eq c i) p
  unfold XR xRow
  have h0 : (x 0).val < 1 := (x 0).isLt
  have hd : (⟨(((Rect.unit (s := S32x128x128) (k0_off10 c (BitVec.ofNat 32 (1 + i.val))) S1x128x128.size (k0_off10_inb c i)).emb x) 0).val,
      Fin.isLt _⟩ : Dev nD) = bwd c (i.val + 1) :=
    Fin.ext (by
      show k0_off10 c (BitVec.ofNat 32 (1 + i.val)) 0 + 1 * (x 0).val = _
      rw [e]; show (bwd c (i.val + 1)).val + _ = _; omega)
  refine (congrArg (fun d => XS m d _) hd).trans (congrArg (XS m (bwd c (i.val + 1))) (funext fun a => Fin.ext ?_))
  match a with
  | ⟨0, _⟩ => show 128 * c.val + (k0_off10 c (BitVec.ofNat 32 (1 + i.val)) 1 + 1 * (x 1).val) = _; rw [e]; show 128 * c.val + (0 + _) = 128 * c.val + _; omega
  | ⟨1, _⟩ => show k0_off10 c (BitVec.ofNat 32 (1 + i.val)) 2 + 1 * (x 2).val = (x 2).val; rw [e]; show 0 + _ = _; omega

theorem row_set (c : Dev nD) (i : Fin 31) :
    ∀ y ∈ (Rect.unit (s := S32x128x128) (k0_off10 c (BitVec.ofNat 32 (1 + i.val))) S1x128x128.size (k0_off10_inb c i)).set,
      y ∈ rowSet (bwd c (i.val + 1)) := fun y hy =>
  Finset.mem_filter.mpr ⟨Finset.mem_univ _, (mem_lead _ _ _ (off10_eq c i) y).mp hy⟩

theorem read_w (c : Dev nD) (k : ℕ) (s : Fin 4) :
    tM.view.readAt (Elt F) (Rect.unit (s := S4x128x8192) ![s.val, 0, 0] S1x128x8192.size (inb_wt2 s)).toLoadRect (WT m c k) = wBlk m c (bwd c k) := by
  funext x
  show WT m c k ((Rect.unit (s := S4x128x8192) ![s.val, 0, 0] S1x128x8192.size (inb_wt2 s)).emb x) = _
  unfold WT wBlk
  refine congrArg (W m c) (funext fun a => Fin.ext ?_)
  match a with
  | ⟨0, _⟩ => show 128 * (bwd c k).val + (0 + 1 * (x 1).val) = 128 * (bwd c k).val + (x 1).val; omega
  | ⟨1, _⟩ => show 0 + 1 * (x 2).val = (x 2).val; omega

theorem w_set (s : Fin 4) :
    ∀ y ∈ (Rect.unit (s := S4x128x8192) ![s.val, 0, 0] S1x128x8192.size (inb_wt2 s)).set, y ∈ wtSet s 0 ∪ wtSet s 1 := by
  intro y hy
  have h := (mem_lead _ _ _ rfl y).mp hy
  have h1 : (y 1).val < 128 := (y 1).isLt
  rw [Finset.mem_union, wtSet, wtSet, Finset.mem_filter, Finset.mem_filter]
  by_cases hh : (y 1).val < 64
  · exact .inl ⟨Finset.mem_univ _, h, by show (y 1).val / 64 = 0; omega⟩
  · exact .inr ⟨Finset.mem_univ _, h, by show (y 1).val / 64 = 1; omega⟩

end Land

end Cert.K01
-- ==== Proof.Tri.lean ====
/-
# Triples

What one operation, or a loop of operations, takes and gives back, with the protocol's invariants at hand: the rules
for sequencing, for a loop over separate resources, and for the four kinds of operation on the protocol's semaphores.
-/
module

public import proofs.«01_k».proof.Proof.Geom
public import Idealize.SL.ProofMode.BigOp
public import Idealize.SL.BI.BigOpNat
public import Mathlib.Algebra.Order.BigOperators.Group.LocallyFinite

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Levels and debts -/

def L (g : GSem nD τ sig) : Finset Unit := if g.1.2 = .tc then {()} else ∅
/-- The barrier at 1, the landings of the blocks of `x` at 2, the landings of the maxima at 3, all else at 0. -/
def lvK : Option Ck → ℕ
  | some none => 1
  | some (some (.inl (1, _))) => 2
  | some (some (.inl (3, _))) => 3
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Ck) : lv (cell c k) () = lvK (some k) := by unfold lv; rw [kindOf_csem]

/-- What device `c` owes the device `k` places on: a unit of its barrier, a block of `x`, a maximum. -/
def oB (c : Dev nD) (k : ℕ) : CellTallies nD τ sig Unit := tallyAt (cell (fwd c k) kBar) () 1
def oR (c : Dev nD) (k : ℕ) : CellTallies nD τ sig Unit := tallyAt (cell (fwd c k) (kRecv c)) () N1
def oA (c : Dev nD) (k : ℕ) : CellTallies nD τ sig Unit := tallyAt (cell (fwd c k) (kAgr c)) () N3
/-- The same from the `k`-th on. -/
def OB (c : Dev nD) (k : ℕ) : CellTallies nD τ sig Unit := ∑ i ∈ Finset.Ico k 32, oB c i
def OR (c : Dev nD) (k : ℕ) : CellTallies nD τ sig Unit := ∑ i ∈ Finset.Ico k 32, oR c i
def OA (c : Dev nD) (k : ℕ) : CellTallies nD τ sig Unit := ∑ i ∈ Finset.Ico k 32, oA c i
def O₀ (c : Dev nD) : CellTallies nD τ sig Unit := OB c 1 + (OR c 1 + OA c 1)

theorem OB_step (c : Dev nD) {k : ℕ} (h : k < 32) : OB c k = OB c (k + 1) + oB c k := by
  unfold OB; rw [Finset.sum_eq_sum_Ico_succ_bot h, add_comm]
theorem OR_step (c : Dev nD) {k : ℕ} (h : k < 32) : OR c k = OR c (k + 1) + oR c k := by
  unfold OR; rw [Finset.sum_eq_sum_Ico_succ_bot h, add_comm]
theorem OA_step (c : Dev nD) {k : ℕ} (h : k < 32) : OA c k = OA c (k + 1) + oA c k := by
  unfold OA; rw [Finset.sum_eq_sum_Ico_succ_bot h, add_comm]
theorem OB_end (c : Dev nD) : OB c 32 = 0 := by unfold OB; rw [Finset.Ico_self, Finset.sum_empty]
theorem OR_end (c : Dev nD) : OR c 32 = 0 := by unfold OR; rw [Finset.Ico_self, Finset.sum_empty]
theorem OA_end (c : Dev nD) : OA c 32 = 0 := by unfold OA; rw [Finset.Ico_self, Finset.sum_empty]

/-- Where a sum of debts to single cells is positive. -/
theorem pos_sum {s : Finset ℕ} {c : ℕ → GSem nD τ sig} {n : ℕ} {g : GSem nD τ sig} {u : Unit}
    (h : 0 < (∑ i ∈ s, (tallyAt (c i) () n : CellTallies nD τ sig Unit)) g u) : ∃ i ∈ s, g = c i := by
  rw [Finset.sum_apply, Finsupp.finsetSum_apply] at h
  obtain ⟨i, hi, hp⟩ := Finset.exists_ne_zero_of_sum_ne_zero (Nat.pos_iff_ne_zero.mp h)
  refine ⟨i, hi, ?_⟩
  rw [tallyAt_apply] at hp
  by_contra hn
  exact hp (if_neg fun e => hn e.1)

/-- The level above which everything owed lies. -/
def Above (b : ℕ) (O : CellTallies nD τ sig Unit) : Prop :=
  ∀ (g : GSem nD τ sig) (u : Unit), 0 < O g u → g.1.2 = .tc ∧ b < lv g u

theorem Above.zero (b : ℕ) : Above b 0 := fun g u h => absurd h (Nat.lt_irrefl 0)
theorem Above.add {b : ℕ} {O O' : CellTallies nD τ sig Unit} (h : Above b O) (h' : Above b O') : Above b (O + O') := fun g u hp => by
  rw [Pi.add_apply, Finsupp.add_apply] at hp
  rcases Nat.eq_zero_or_pos (O g u) with h0 | h0
  · exact h' g u (by omega)
  · exact h g u h0
theorem Above.mono {b b' : ℕ} {O : CellTallies nD τ sig Unit} (hb : b ≤ b') (h : Above b' O) : Above b O :=
  fun g u hp => ⟨(h g u hp).1, lt_of_le_of_lt hb (h g u hp).2⟩

theorem above_OB (c : Dev nD) (k : ℕ) : Above 0 (OB c k) := fun g u hp => by
  obtain ⟨i, -, rfl⟩ := pos_sum hp
  exact ⟨rfl, by cases u; rw [lv_cell]; exact Nat.one_pos⟩
theorem above_OR (c : Dev nD) (k : ℕ) : Above 1 (OR c k) := fun g u hp => by
  obtain ⟨i, -, rfl⟩ := pos_sum hp
  exact ⟨rfl, by cases u; rw [lv_cell]; exact Nat.lt_succ_self 1⟩
theorem above_OA (c : Dev nD) (k : ℕ) : Above 2 (OA c k) := fun g u hp => by
  obtain ⟨i, -, rfl⟩ := pos_sum hp
  exact ⟨rfl, by cases u; rw [lv_cell]; exact Nat.lt_succ_self 2⟩

theorem mayWait_of (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- What is owed, whatever has been waited for. -/
def ow (c : Dev nD) (O : CellTallies nD τ sig Unit) : sProp 𝕄 := iprop(∃ W, owes (c : Thread nD τ) O W)

/-! ## The protocol's records -/

section Recs

variable (m : (ℓ : Loc nD τ sig) → Buf (Elt F) ℓ) (K : Dev nD × Ck → ℕ)

def records : sProp 𝕄 :=
  iprop((bigSep Finset.univ fun ck : Dev nD × Ck => cellInv ER (Rd m) (K ck) (cell ck.1 ck.2))
    ∗ bigSep Finset.univ fun ck : Dev nD × Ck => reached ER (cell ck.1 ck.2) 0)

instance records_persistent : BI.Persistent (records m K) := by unfold records; infer_instance

def Ctx : sProp 𝕄 := iprop(records m K ∗ levAts L lv)

instance ctx_persistent : BI.Persistent (Ctx m K) := by unfold Ctx; infer_instance

theorem ctx_inv (c : Dev nD) (k : Ck) : Ctx m K ⊢ cellInv ER (Rd m) (K (c, k)) (cell c k) := by
  unfold Ctx records
  iintro ⟨⟨HI, -⟩, -⟩
  iapply (show (bigSep Finset.univ fun ck : Dev nD × Ck => (cellInv ER (Rd m) (K ck) (cell ck.1 ck.2) : sProp 𝕄)) ⊢ cellInv ER (Rd m) (K (c, k)) (cell c k)
    from bigSep_elim (Finset.mem_univ (c, k)))
  iexact HI

theorem ctx_reached (c : Dev nD) (k : Ck) : Ctx m K ⊢ reached ER (cell c k) 0 := by
  unfold Ctx records
  iintro ⟨⟨-, HI⟩, -⟩
  iapply (show (bigSep Finset.univ fun ck : Dev nD × Ck => (reached ER (cell ck.1 ck.2) 0 : sProp 𝕄)) ⊢ reached ER (cell c k) 0
    from bigSep_elim (Finset.mem_univ (c, k)))
  iexact HI

theorem ctx_lev : Ctx m K ⊢ levAts L lv := by
  unfold Ctx
  iintro ⟨-, H⟩
  iexact H

/-! ## Triples -/

/-- From `P` the program runs, on device `c`, to `R` of its result. -/
def Tr (c : Dev nD) {α : Type} (p : PG F α) (P : sProp 𝕄) (R : α → sProp 𝕄) : Prop :=
  ∀ Q : α → sProp 𝕄, iprop(Ctx m K ∗ P ∗ (∀ v, R v -∗ Q v))
    ⊢ wp frame (wpE (defs₀ (F := F)) 𝒱₀ (c : Thread nD τ) none) Set.univ p Q

variable {m K}

theorem Tr.bind {c : Dev nD} {α β : Type} {p : PG F α} {f : α → PG F β} {P : sProp 𝕄} {R : α → sProp 𝕄} {S : β → sProp 𝕄}
    (h : Tr m K c p P R) (h' : ∀ v, Tr m K c (f v) (R v) S) : Tr m K c (p >>= f) P S := fun Q => by
  rw [wp_bind]
  iintro ⟨#HC, HP, HQ⟩
  iapply (h _)
  isplitr; · iexact HC
  isplitl [HP]; · iexact HP
  iintro %v HR
  iapply (h' v Q)
  isplitr; · iexact HC
  isplitl [HR]; · iexact HR
  iexact HQ

theorem Tr.pure {c : Dev nD} {α : Type} {a : α} {R : α → sProp 𝕄} : Tr m K c (Pure.pure a) (R a) R := fun Q => by
  rw [wp_pure]
  iintro ⟨-, HP, HQ⟩
  imodintro
  iapply HQ
  iexact HP

theorem Tr.conseq {c : Dev nD} {α : Type} {p : PG F α} {P P' : sProp 𝕄} {R R' : α → sProp 𝕄}
    (h : Tr m K c p P' R') (hP : iprop(Ctx m K ∗ P) ⊢ P') (hR : ∀ v, R' v ⊢ R v) : Tr m K c p P R := fun Q => by
  iintro ⟨#HC, HP, HQ⟩
  iapply (h Q)
  isplitr; · iexact HC
  isplitl [HP]
  · iapply hP
    isplitr; · iexact HC
    iexact HP
  iintro %v HR
  iapply HQ
  iapply (hR v)
  iexact HR

theorem Tr.pre {c : Dev nD} {α : Type} {p : PG F α} {P P' : sProp 𝕄} {R : α → sProp 𝕄}
    (h : Tr m K c p P' R) (hP : P ⊢ P') : Tr m K c p P R :=
  h.conseq (by iintro ⟨-, H⟩; iapply hP; iexact H) (fun _ => BI.Entails.refl _)

theorem Tr.post {c : Dev nD} {α : Type} {p : PG F α} {P : sProp 𝕄} {R R' : α → sProp 𝕄}
    (h : Tr m K c p P R') (hR : ∀ v, R' v ⊢ R v) : Tr m K c p P R :=
  h.conseq (by iintro ⟨-, H⟩; iexact H) hR

theorem Tr.frame {c : Dev nD} {α : Type} {p : PG F α} {P : sProp 𝕄} {R : α → sProp 𝕄} (X : sProp 𝕄)
    (h : Tr m K c p P R) : Tr m K c p iprop(P ∗ X) (fun v => iprop(R v ∗ X)) := fun Q => by
  iintro ⟨HC, ⟨HP, HX⟩, HQ⟩
  iapply (h Q)
  isplitl [HC]; · iexact HC
  isplitl [HP]; · iexact HP
  iintro %v HR
  iapply HQ
  isplitl [HR]; · iexact HR
  iexact HX

theorem Tr.exists {c : Dev nD} {α β : Type} {p : PG F α} {P : β → sProp 𝕄} {R : α → sProp 𝕄}
    (h : ∀ b, Tr m K c p (P b) R) : Tr m K c p iprop(∃ b, P b) R := fun Q => by
  iintro ⟨HC, ⟨%b, HP⟩, HQ⟩
  iapply (h b Q)
  isplitl [HC]; · iexact HC
  isplitl [HP]; · iexact HP
  iexact HQ

theorem Tr.each {c : Dev nD} (n : ℕ) (f : Fin n → PG F PUnit) (I : ℕ → sProp 𝕄)
    (h : ∀ i : Fin n, Tr m K c (f i) (I i.val) (fun _ => I (i.val + 1))) : Tr m K c (K01.each n f) (I 0) (fun _ => I n) := by
  induction n generalizing I with
  | zero => exact Tr.pure (a := PUnit.unit) (R := fun _ => I 0)
  | succ n ih =>
    refine Tr.bind (h 0) fun _ => ?_
    exact ih (fun i => f i.succ) (fun k => I (k + 1)) fun i => h i.succ

/-- A loop whose `i`-th round takes the `b + i`-th of one family of resources and gives back that of another. -/
theorem Tr.eachSep {c : Dev nD} (b n : ℕ) (f : Fin n → PG F PUnit) (A B : ℕ → sProp 𝕄) (S : ℕ → sProp 𝕄)
    (h : ∀ i : Fin n, Tr m K c (f i) iprop(A (b + i.val) ∗ S i.val) (fun _ => iprop(B (b + i.val) ∗ S (i.val + 1)))) :
    Tr m K c (K01.each n f) iprop(bigSep (Finset.Ico b (b + n)) A ∗ S 0) (fun _ => iprop(bigSep (Finset.Ico b (b + n)) B ∗ S n)) := by
  refine ((Tr.each n f (fun k => iprop(bigSep (Finset.Ico b (b + k)) B ∗ bigSep (Finset.Ico (b + k) (b + n)) A ∗ S k)) fun i => ?_).pre ?_).post ?_
  · rw [bigSep_Ico_succ_bot (show b + i.val < b + n by omega), ← Nat.add_assoc b i.val 1, bigSep_Ico_succ_top (show b ≤ b + i.val by omega)]
    intro Q
    iintro ⟨HC, ⟨HB, ⟨HA, HAs⟩, HS⟩, HQ⟩
    iapply (h i Q)
    isplitl [HC]; · iexact HC
    isplitl [HA HS]
    · isplitl [HA]; · iexact HA
      iexact HS
    iintro %v ⟨HB', HS⟩
    iapply HQ
    isplitl [HB HB']
    · isplitl [HB']; · iexact HB'
      iexact HB
    isplitl [HAs]; · iexact HAs
    iexact HS
  · rw [Nat.add_zero, Finset.Ico_self, bigSep_empty]
    iintro ⟨HA, HS⟩
    isplitr; · iempintro
    isplitl [HA]; · iexact HA
    iexact HS
  · intro _
    rw [Finset.Ico_self, bigSep_empty]
    iintro ⟨HB, -, HS⟩
    isplitl [HB]; · iexact HB
    iexact HS

/-! ## The operations on the protocol's semaphores -/

/-- A unit added to a peer's barrier. -/
theorem tr_signal (c c' : Dev nD) (hne : c ≠ c') (O : CellTallies nD τ sig Unit) :
    Tr m K c (semSignalWord c' barS 1#32)
      iprop(dutyTok ER (cell c' kBar) 0 c ∗ payK m c' kBar 0 c ∗ ow c (O + tallyAt (cell c' kBar) () 1)) (fun _ => ow c O) := fun Q => by
  simp only [semSignalWord, Prog.lift]
  unfold ow
  iintro ⟨#HC, ⟨Ht, Hp, ⟨%W, HO⟩⟩, HQ⟩
  iapply (Rounds.wp_signal 𝒱₀ ER (Rd m) (c : Thread nD τ) none (dst := (c' : Thread nD τ)) (κ := K (c', kBar)) (r := 0) (d := c)
      (by show c ∈ (Rd m).duties (cell c' kBar) 0
          rw [duties_cell]; exact Finset.mem_erase.mpr ⟨hne, Finset.mem_univ _⟩)
      ((amount_cell m c' kBar 0 c).trans (by decide)) () O rfl) $$ [HO Ht Hp]
  · isplitr; · iapply (ctx_inv m K c' kBar); iexact HC
    isplitl [HO]; · iexact HO
    isplitl [Ht]; · iexact Ht
    isplitl [Hp]
    · iapply (Entails.of_eq (show (Rd m).payload ((c' : Thread nD τ), SemLoc.reg barS) 0 c = _ from payload_cell m c' kBar 0 c).symm); iexact Hp
    iapply (ctx_reached m K c' kBar); iexact HC
  iintro HO
  rw [wp_ret]; imodintro
  iapply HQ
  iexists W
  iexact HO

theorem lvK_eq (c : Dev nD) (k : Ck) : lv ((c : Thread nD τ), csem k) () = lvK (some k) := lv_cell c k

/-- The wait for the 31 peers' units. -/
theorem tr_barrier (c : Dev nD) (O : CellTallies nD τ sig Unit) (hO : Above 1 O) :
    Tr m K c (semWaitWord barS 31#32)
      iprop(cred (tallyAt (cell c kBar) () 31) ∗ atPos ER (cell c kBar) 0 ∅ 0 ∗ ow c O)
      (fun _ => iprop(bigSep (Finset.univ.erase c) (fun p => payK m c kBar 0 p) ∗ atPos ER (cell c kBar) 1 ∅ 0 ∗ ow c O)) := fun Q => by
  simp only [semWaitWord, Prog.lift]
  unfold ow
  iintro ⟨#HC, ⟨Hc, Ha, ⟨%W, HO⟩⟩, HQ⟩
  iapply (Rounds.wp_wait_rest_token 𝒱₀ ER (Rd m) (c : Thread nD τ) none (κ := K (c, kBar))
      (wpE_semWait_eq 𝒱₀ (c : Thread nD τ) none Set.univ) (Set.mem_univ _) () (O := O) (W := W) (R := 0) (m := 0) (T := ∅)
      (by rw [show (Rd m).expect ((c : Thread nD τ), SemLoc.reg barS) 0 = _ from expect_cell m c kBar 0]
          show _ = (Finset.univ.erase c).card * 1
          rw [Finset.card_erase_of_mem (Finset.mem_univ c), Finset.card_univ, Fintype.card_fin]; decide)) $$ [Hc HO Ha]
  · isplitr; · iapply (ctx_inv m K c kBar); iexact HC
    isplitl [Hc]; · iexact Hc
    isplitl [HO]; · iexact HO
    isplitr
    · iapply (mayWait_of c (.reg barS) (by rw [show lv ((c : Thread nD τ), SemLoc.reg barS) () = _ from lv_cell c kBar]; exact hO))
      iapply (ctx_lev m K); iexact HC
    iexact Ha
  iintro ⟨HO, Ha, -, Hp⟩
  rw [wp_ret]; imodintro
  iapply HQ
  isplitl [Hp]
  · rw [Finset.sdiff_empty, show (Rd m).duties ((c : Thread nD τ), SemLoc.reg barS) 0 = Finset.univ.erase c from duties_cell m c kBar 0]
    rw [show (fun d => (Rd m).payload ((c : Thread nD τ), SemLoc.reg barS) 0 d) = fun p => payK m c kBar 0 p from
      funext fun d => payload_cell m c kBar 0 d]
    iexact Hp
  isplitl [Ha]; · iexact Ha
  iexists _
  iexact HO

/-- A wait for the only duty of a round of an own semaphore. -/
theorem tr_wait (c : Dev nD) (k : Ck) {sem : DmaSem sig} (hs : SemLoc.dma sem = csem k) {s s' : Shape} {e e' : EltTy} {sp sp' : Space}
    (src : Memref sig .tc sp s e) (dst : Memref sig .tc sp' s' e') (h₁) (h₂) (hN : dst.view.dmaCredit = amountK k) (r : ℕ)
    (hd : dutiesK c k r = {0}) (O : CellTallies nD τ sig Unit) (hO : Above (lvK (some k)) O) :
    Tr m K c (Prog.lift (.waitDma2 sem src dst h₁ h₂))
      iprop(cred (tallyAt (cell c k) () (amountK k)) ∗ atPos ER (cell c k) r ∅ 0 ∗ ow c O)
      (fun _ => iprop(payK m c k r 0 ∗ atPos ER (cell c k) (r + 1) ∅ 0 ∗ reached ER (cell c k) (r + 1) ∗ ow c O)) := fun Q => by
  simp only [Prog.lift]
  unfold ow cell
  have hdu : (Rd m).duties ((c : Thread nD τ), csem k) r = {0} := (duties_cell m c k r).trans hd
  have hex : (Rd m).expect ((c : Thread nD τ), csem k) r = amountK k := by
    refine (expect_cell m c k r).trans ?_
    rw [hd, Finset.card_singleton, one_mul]
  have hpl : (Rd m).payload ((c : Thread nD τ), csem k) r 0 = payK m c k r 0 := payload_cell m c k r 0
  have hin := ctx_inv m K c k
  have hlv : lv ((c : Thread nD τ), csem k) () = lvK (some k) := lv_cell c k
  unfold cell at hin
  rw [← hs] at hdu hex hpl hin hlv ⊢
  rw [← hN] at hex ⊢
  iintro ⟨#HC, ⟨Hc, Ha, ⟨%W, HO⟩⟩, HQ⟩
  iapply (Rounds.wp_wait_rest_token 𝒱₀ ER (Rd m) (c : Thread nD τ) none (κ := K (c, k))
      (wpE_waitDma2_eq 𝒱₀ (c : Thread nD τ) none Set.univ) (Set.mem_univ _) () (O := O) (W := W) (R := r) (m := 0) (T := ∅)
      (by rw [Nat.zero_add, hex])) $$ [Hc HO Ha]
  · isplitr; · iapply hin; iexact HC
    isplitl [Hc]; · iexact Hc
    isplitl [HO]; · iexact HO
    isplitr
    · iapply (mayWait_of c (.dma sem) (by rw [hlv]; exact hO))
      iapply (ctx_lev m K); iexact HC
    iexact Ha
  iintro ⟨HO, Ha, Hr, Hp⟩
  rw [wp_ret]; imodintro
  iapply HQ
  isplitl [Hp]
  · iapply (Entails.of_eq (show bigSep ((Rd m).duties ((c : Thread nD τ), SemLoc.dma sem) r \ ∅)
        (fun d => (Rd m).payload ((c : Thread nD τ), SemLoc.dma sem) r d) = payK m c k r 0 by
      rw [Finset.sdiff_empty, hdu, bigSep_singleton, hpl]))
    iexact Hp
  isplitl [Ha]; · iexact Ha
  isplitl [Hr]; · iexact Hr
  iexists _
  iexact HO

/-- A copy on the device itself, paying the only duty of a round of an own semaphore. -/
theorem tr_copy (c : Dev nD) (k : Ck) {sem : DmaSem sig} (hs : SemLoc.dma sem = csem k) {s : Shape} {e : EltTy} {sp sp' : Space}
    (src : Memref sig .tc sp s e) (dst : Memref sig .tc sp' s e) (h₁) (h₂) (h₃) (hN : dst.view.dmaCredit = amountK k) (r : ℕ)
    (hd : dutiesK c k r = {0}) (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ payK m c k r 0) :
    Tr m K c (Prog.lift (.enqueueDma src (.here dst) (.dma sem) h₁ h₂ h₃))
      iprop((src.view.loc (c : Thread nD τ) ↦[src.view.set]{fullShare} fs) ∗ (dst.view.loc (c : Thread nD τ) ↦[dst.view.set]{fullShare} fd)
        ∗ dutyTok ER (cell c k) r 0 ∗ reached ER (cell c k) r)
      (fun _ => cred (tallyAt (cell c k) () (amountK k))) := fun Q => by
  simp only [Prog.lift]
  have hdu : (Rd m).duties ((c : Thread nD τ), csem k) r = {0} := (duties_cell m c k r).trans hd
  have ham : (Rd m).amount ((c : Thread nD τ), csem k) r 0 = amountK k := amount_cell m c k r 0
  have hpl : (Rd m).payload ((c : Thread nD τ), csem k) r 0 = payK m c k r 0 := payload_cell m c k r 0
  have hin := ctx_inv m K c k
  unfold cell at hin ⊢
  rw [← hs] at hdu ham hpl hin ⊢
  iintro ⟨#HC, ⟨Hs, Hd, Ht, Hr⟩, HQ⟩
  iapply (Rounds.wp_copy_pointsTo 𝒱₀ ER (Rd m) (c : Thread nD τ) none (κ := K (c, k)) (r := r) (d := 0) (q := fullShare) (fs := fs) (fd := fd)
      (by rw [hdu]; exact Finset.mem_singleton_self _) () (amountK k) (show dst.view.amount (.dma sem) = _ from hN) ham (by rw [hpl]; exact hpay)) $$ [Hs Hd Ht Hr]
  · isplitr; · iapply hin; iexact HC
    isplitl [Hs]; · iexact Hs
    isplitl [Hd]; · iexact Hd
    isplitl [Ht]; · iexact Ht
    iexact Hr
  iintro Hc
  rw [wp_ret]; imodintro
  iapply HQ
  iexact Hc

/-- A copy to a peer, paying the only duty of an own semaphore and that of one of the peer's. -/
theorem tr_send (c c' : Dev nD) (k₁ k₂ : Ck) {semS sem : DmaSem sig} (hs₁ : SemLoc.dma semS = csem k₁) (hs₂ : SemLoc.dma sem = csem k₂)
    {s : Shape} {e : EltTy} {sp sp' : Space}
    (src : Memref sig .tc sp s e) (dst : Memref sig .tc sp' s e) (hsc) (h₁) (h₂) (h₃)
    (hN : dst.view.dmaCredit = amountK k₂) (hN' : amountK k₁ = amountK k₂)
    (hd₁ : dutiesK c k₁ 0 = {0}) (hd₂ : dutiesK c' k₂ 0 = {0}) (q : PosShare TreeShare)
    (fs : Buf (Elt F) (src.view.loc (c : Thread nD τ))) (fd : Buf (Elt F) (dst.view.loc (c' : Thread nD τ)))
    (hpay₁ : (src.view.loc (c : Thread nD τ) ↦[src.view.set]{q} fs) ⊢ payK m c k₁ 0 0)
    (hpay₂ : (dst.view.loc (c' : Thread nD τ) ↦[dst.view.set]{fullShare} (dst.view.write (Elt F) fd (src.view.read (Elt F) fs) Finset.univ))
        ⊢ payK m c' k₂ 0 0) (O : CellTallies nD τ sig Unit) :
    Tr m K c (Prog.lift (.enqueueDma src (.remote (Dev.tc c') dst (.dma semS) hsc) (.dma sem) h₁ h₂ h₃))
      iprop((src.view.loc (c : Thread nD τ) ↦[src.view.set]{q} fs) ∗ (dst.view.loc (c' : Thread nD τ) ↦[dst.view.set]{fullShare} fd)
        ∗ dutyTok ER (cell c k₁) 0 0 ∗ dutyTok ER (cell c' k₂) 0 0 ∗ ow c (O + tallyAt (cell c' k₂) () (amountK k₂)))
      (fun _ => iprop(cred (tallyAt (cell c k₁) () (amountK k₁)) ∗ ow c O)) := fun Q => by
  simp only [Prog.lift]
  have hdu₁ : (Rd m).duties ((c : Thread nD τ), csem k₁) 0 = {0} := (duties_cell m c k₁ 0).trans hd₁
  have ham₁ : (Rd m).amount ((c : Thread nD τ), csem k₁) 0 0 = amountK k₁ := amount_cell m c k₁ 0 0
  have hpl₁ : (Rd m).payload ((c : Thread nD τ), csem k₁) 0 0 = payK m c k₁ 0 0 := payload_cell m c k₁ 0 0
  have hin₁ := ctx_inv m K c k₁
  have hre₁ := ctx_reached m K c k₁
  have hdu₂ : (Rd m).duties ((c' : Thread nD τ), csem k₂) 0 = {0} := (duties_cell m c' k₂ 0).trans hd₂
  have ham₂ : (Rd m).amount ((c' : Thread nD τ), csem k₂) 0 0 = amountK k₂ := amount_cell m c' k₂ 0 0
  have hpl₂ : (Rd m).payload ((c' : Thread nD τ), csem k₂) 0 0 = payK m c' k₂ 0 0 := payload_cell m c' k₂ 0 0
  have hin₂ := ctx_inv m K c' k₂
  have hre₂ := ctx_reached m K c' k₂
  unfold ow
  unfold cell at hin₁ hre₁ hin₂ hre₂ ⊢
  rw [← hs₁] at hdu₁ ham₁ hpl₁ hin₁ hre₁ ⊢
  rw [← hs₂] at hdu₂ ham₂ hpl₂ hin₂ hre₂ ⊢
  rw [hN'] at ham₁ ⊢
  iintro ⟨#HC, ⟨Hs, Hd, Ht₁, Ht₂, ⟨%W, HO⟩⟩, HQ⟩
  iapply (Rounds.wp_send_pointsTo 𝒱₀ ER (Rd m) (c : Thread nD τ) none (κ₁ := K (c, k₁)) (κ₂ := K (c', k₂)) (r₁ := 0) (r₂ := 0) (d₁ := 0) (d₂ := 0)
      (q := q) (fs := fs) (fd := fd)
      (by rw [hdu₁]; exact Finset.mem_singleton_self _) (by rw [hdu₂]; exact Finset.mem_singleton_self _) () () (amountK k₂) (show dst.view.amount (.dma sem) = _ from hN)
      ham₁ ham₂ O rfl (W := W) (by rw [hpl₁]; exact hpay₁) (by rw [hpl₂]; exact hpay₂)) $$ [Hs Hd Ht₁ Ht₂ HO]
  · isplitr; · iapply hin₁; iexact HC
    isplitr; · iapply hin₂; iexact HC
    isplitl [Hs]; · iexact Hs
    isplitl [Hd]; · iexact Hd
    isplitl [HO]; · iexact HO
    isplitl [Ht₁]; · iexact Ht₁
    isplitr; · iapply hre₁; iexact HC
    isplitl [Ht₂]; · iexact Ht₂
    iapply hre₂; iexact HC
  iintro ⟨Hc, HO⟩
  rw [wp_ret]; imodintro
  iapply HQ
  isplitl [Hc]; · iexact Hc
  iexists W
  iexact HO

end Recs

end Cert.K01
-- ==== Proof.Steps.lean ====
/-
# The operations of the body

One triple for each of the body's operations on the protocol's semaphores, at a symbolic number of places.
-/
module

public import proofs.«01_k».proof.Proof.Tri

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

abbrev hsM : (sM : Memref sig .tc .vmem S4096x128 .bf16).IsWhole := Memref.isWhole_whole _
abbrev hrM : (rM : Memref sig .tc .vmem S32x128x128 .bf16).IsWhole := Memref.isWhole_whole _
abbrev hbM : (bM : Memref sig .tc .vmem S8x128 .f32).IsWhole := Memref.isWhole_whole _

theorem fwd_mod (c : Dev nD) (k : ℕ) : fwd c (k % 32) = fwd c k := Fin.ext (by rw [fwd_val, fwd_val]; omega)

/-! ## Duties -/

theorem duties_send (c : Dev nD) {k : ℕ} (h : 1 ≤ k) (h' : k < 32) : dutiesK c (kSend k) 0 = {0} :=
  if_neg (show ¬ k % 32 = 0 by omega)
theorem duties_ags (c : Dev nD) {k : ℕ} (h : 1 ≤ k) (h' : k < 32) : dutiesK c (kAgs k) 0 = {0} :=
  if_neg (show ¬ k % 32 = 0 by omega)
theorem duties_recv (c j : Dev nD) (h : j ≠ c) : dutiesK c (kRecv j) 0 = {0} := if_neg h
theorem duties_agr (c j : Dev nD) (h : j ≠ c) : dutiesK c (kAgr j) 0 = {0} := if_neg h
theorem duties_w (c : Dev nD) (k : ℕ) (h : Fin 2) {r : ℕ} (hr : r < 8) : dutiesK c (kW k h) r = {0} := if_pos hr

section Recs

variable (m : (ℓ : Loc nD τ sig) → Buf (Elt F) ℓ) {K : Dev nD × Ck → ℕ}

/-! ## The payloads -/

theorem payK_bar (c p : Dev nD) : payK m c kBar 0 p = iprop((∃ f, rowPts p c f) ∗ ∃ f, amPts p c f) := rfl
theorem payK_send (c : Dev nD) (k : ℕ) : payK m c (kSend k) 0 0 = xsPts c (fwd c k) (XS m c) := by
  show xsPts c (fwd c (k % 32)) (XS m c) = _
  rw [fwd_mod]
theorem payK_recv (c j : Dev nD) : payK m c (kRecv j) 0 0 = rowPts c j (XR m c) := rfl
theorem payK_ags (c : Dev nD) {k : ℕ} (h : k < 32) : payK m c (kAgs k) 0 0 = boxPts c (shareTokN fullShare k) (BX m c) := by
  show boxPts c (shareTokN fullShare (k % 32)) (BX m c) = _
  rw [Nat.mod_eq_of_lt h]
theorem payK_agr (c j : Dev nD) : payK m c (kAgr j) 0 0 = amPts c j (AA m) := rfl

/-! ## The entry -/

/-- What a device hands the device `k` places on at the entry. -/
def ASig (c : Dev nD) (k : ℕ) : sProp 𝕄 :=
  iprop(dutyTok ER (cell (fwd c k) kBar) 0 c ∗ (∃ f, rowPts c (fwd c k) f) ∗ ∃ f, amPts c (fwd c k) f)

theorem t_sig (c : Dev nD) (i : Fin 31) (X : CellTallies nD τ sig Unit) :
    Tr m K c (sigOp c i) iprop(ASig c (1 + i.val) ∗ ow c (OB c (1 + i.val) + X))
      (fun _ => iprop(emp ∗ ow c (OB c (1 + (i.val + 1)) + X))) := by
  have hi := i.isLt
  unfold sigOp
  rw [sigDev_eq, Nat.add_comm 1 i.val, Nat.add_comm 1 (i.val + 1), OB_step c (show i.val + 1 < 32 by omega)]
  refine ((tr_signal (m := m) (K := K) c (fwd c (i.val + 1)) (fwd_ne c (by omega) (by omega)).symm (OB c (i.val + 1 + 1) + X)).pre ?_).post ?_
  · unfold ASig
    rw [payK_bar]
    rw [show OB c (i.val + 1 + 1) + oB c (i.val + 1) + X = OB c (i.val + 1 + 1) + X + tallyAt (cell (fwd c (i.val + 1)) kBar) () 1 from
      add_right_comm _ _ _]
    iintro ⟨⟨Ht, Hr, Ha⟩, HO⟩
    isplitl [Ht]; · iexact Ht
    isplitl [Hr Ha]
    · isplitl [Hr]; · iexact Hr
      iexact Ha
    iexact HO
  · intro _
    iintro HO
    isplitr; · iempintro
    iexact HO

/-! ## The sends of the blocks of `x` -/

def ASend (c : Dev nD) (k : ℕ) : sProp 𝕄 :=
  iprop(xsPts c (fwd c k) (XS m c) ∗ (∃ f, rowPts (fwd c k) c f) ∗ dutyTok ER (cell c (kSend k)) 0 0
    ∗ dutyTok ER (cell (fwd c k) (kRecv c)) 0 0)
def BSend (c : Dev nD) (k : ℕ) : sProp 𝕄 := cred (tallyAt (cell c (kSend k)) () N1)

theorem t_send (c : Dev nD) (i : Fin 31) (X : CellTallies nD τ sig Unit) :
    Tr m K c (sendOp sM hsM rM hrM cc0_scratch5 cc0_scratch6 c i)
      iprop(ASend m c (1 + i.val) ∗ ow c (OR c (1 + i.val) + X))
      (fun _ => iprop(BSend c (1 + i.val) ∗ ow c (OR c (1 + (i.val + 1)) + X))) := by
  have hi := i.isLt
  rw [Nat.add_comm 1 i.val, Nat.add_comm 1 (i.val + 1), OR_step c (show i.val + 1 < 32 by omega)]
  have hne : c ≠ sendDev i c := by rw [sendDev_eq]; exact (fwd_ne c (by omega) (by omega)).symm
  refine Tr.conseq (R' := fun _ => iprop(BSend c (i.val + 1) ∗ ow c (OR c (i.val + 1 + 1) + X)))
    (P' := iprop(∃ f, ((xsV sM c i).view.loc (c : Thread nD τ) ↦[(xsV sM c i).view.set]{fullShare} XS m c)
      ∗ ((xrMe rM c).view.loc (sendDev i c : Thread nD τ) ↦[(xrMe rM c).view.set]{fullShare} f)
        ∗ dutyTok ER (cell c (kSend (i.val + 1))) 0 0 ∗ dutyTok ER (cell (sendDev i c) (kRecv c)) 0 0
        ∗ ow c (OR c (i.val + 1 + 1) + X + tallyAt (cell (sendDev i c) (kRecv c)) () N1))) ?_ ?_ (fun _ => BI.Entails.refl _)
  · refine Tr.exists fun f => ?_
    exact tr_send (m := m) (K := K) c (sendDev i c) (kSend (i.val + 1)) (kRecv c) (semSend_eq i) (semRecvMe_eq c) (xsV sM c i) (xrMe rM c) rfl _ _ _
      rfl rfl (duties_send c (by omega) (by omega)) (duties_recv (sendDev i c) c hne) fullShare (XS m c) f
      (by
        rw [payK_send, xsV_set]
        exact BI.Entails.refl _)
      (by
        rw [payK_recv, xrMe_set, sendDev_eq]
        exact Entails.of_eq (pointsTo_congr (land_row m c i f)))
      (OR c (i.val + 1 + 1) + X)
  · rw [xsV_set, xrMe_set, sendDev_eq, show OR c (i.val + 1 + 1) + oR c (i.val + 1) + X
      = OR c (i.val + 1 + 1) + X + tallyAt (cell (fwd c (i.val + 1)) (kRecv c)) () N1 from add_right_comm _ _ _]
    unfold ASend xsPts rowPts
    iintro ⟨-, ⟨Hx, ⟨%f, Hr⟩, Ht, Ht'⟩, HO⟩
    iexists f
    isplitl [Hx]; · iexact Hx
    isplitl [Hr]; · iexact Hr
    isplitl [Ht]; · iexact Ht
    isplitl [Ht']; · iexact Ht'
    iexact HO

/-- The wait for a block's departure. -/
def ASendW (c : Dev nD) (k : ℕ) : sProp 𝕄 := iprop(BSend c k ∗ atPos ER (cell c (kSend k)) 0 ∅ 0)
def BSendW (c : Dev nD) (k : ℕ) : sProp 𝕄 := iprop(xsPts c (fwd c k) (XS m c) ∗ atPos ER (cell c (kSend k)) 1 ∅ 0)

theorem t_sendWait (c : Dev nD) (i : Fin 31) :
    Tr m K c (sendWait sM hsM rM hrM cc0_scratch5 c i) iprop(ASendW c (1 + i.val) ∗ ow c 0)
      (fun _ => iprop(BSendW m c (1 + i.val) ∗ ow c 0)) := by
  have hi := i.isLt
  rw [Nat.add_comm 1 i.val]
  refine ((tr_wait (m := m) (K := K) c (kSend (i.val + 1)) (semSend_eq i) (xrMe rM c) (xsV sM c i) _ _ rfl 0
    (duties_send c (by omega) (by omega)) 0 (Above.zero _)).pre ?_).post ?_
  · unfold ASendW BSend
    iintro ⟨⟨H1, H2⟩, H3⟩
    isplitl [H1]; · iexact H1
    isplitl [H2]; · iexact H2
    iexact H3
  · intro _
    unfold BSendW
    rw [payK_send]
    iintro ⟨H1, H2, -, H3⟩
    isplitl [H1 H2]
    · isplitl [H1]; · iexact H1
      iexact H2
    iexact H3

/-! ## The landings of the blocks of `x` -/

def ARecv (c : Dev nD) (k : ℕ) : sProp 𝕄 :=
  iprop(cred (tallyAt (cell c (kRecv (bwd c k))) () N1) ∗ atPos ER (cell c (kRecv (bwd c k))) 0 ∅ 0)
def BRecv (c : Dev nD) (k : ℕ) : sProp 𝕄 :=
  iprop(rowPts c (bwd c k) (XR m c) ∗ atPos ER (cell c (kRecv (bwd c k))) 1 ∅ 0)

theorem t_recv (c : Dev nD) (i : Fin 31) (O : CellTallies nD τ sig Unit) (hO : Above 2 O) :
    Tr m K c (recvOp rM hrM cc0_scratch6 c i) iprop(ARecv c (i.val + 1) ∗ ow c O)
      (fun _ => iprop(BRecv m c (i.val + 1) ∗ ow c O)) := by
  have hi := i.isLt
  refine ((tr_wait (m := m) (K := K) c (kRecv (bwd c (i.val + 1))) (recvSem_eq c i) (xrV rM c i) (xrV rM c i) _ _ rfl 0
    (duties_recv c _ (bwd_ne c (by omega) (by omega))) O hO).pre ?_).post ?_
  · unfold ARecv
    iintro ⟨⟨H1, H2⟩, H3⟩
    isplitl [H1]; · iexact H1
    isplitl [H2]; · iexact H2
    iexact H3
  · intro _
    unfold BRecv
    rw [payK_recv]
    iintro ⟨H1, H2, -, H3⟩
    isplitl [H1 H2]
    · isplitl [H1]; · iexact H1
      iexact H2
    iexact H3

/-! ## The blocks of `w` -/

def Fresh (c : Dev nD) (k : ℕ) (h : Fin 2) : sProp 𝕄 :=
  iprop(dutyTok ER (cell c (kW k h)) (k / 4) 0 ∗ wPts c (bwd c k) h (W m c))
def Avail (c : Dev nD) (k : ℕ) (h : Fin 2) : sProp 𝕄 :=
  iprop((∃ f, wtPts c (slotOf k) h f) ∗ reached ER (cell c (kW k h)) (k / 4) ∗ atPos ER (cell c (kW k h)) (k / 4) ∅ 0)
def Fly (c : Dev nD) (k : ℕ) (h : Fin 2) : sProp 𝕄 :=
  iprop(cred (tallyAt (cell c (kW k h)) () N2) ∗ atPos ER (cell c (kW k h)) (k / 4) ∅ 0)
/-- The block landed. -/
def Here (c : Dev nD) (k : ℕ) (h : Fin 2) : sProp 𝕄 :=
  iprop(wtPts c (slotOf k) h (WT m c k) ∗ wPts c (bwd c k) h (W m c)
    ∗ reached ER (cell c (kW k h)) (k / 4 + 1) ∗ atPos ER (cell c (kW k h)) (k / 4 + 1) ∅ 0)

theorem payK_w (c : Dev nD) (k : ℕ) (h : Fin 2) :
    payK m c (kW k h) (k / 4) 0 = iprop(wtPts c (slotOf k) h (WT m c k) ∗ wPts c (bwd c k) h (W m c)) := by
  show iprop(wtPts c (slotOf k) h (WT m c (4 * (k / 4) + k % 4)) ∗ wPts c (bwd c (4 * (k / 4) + k % 4)) h (W m c)) = _
  rw [Nat.div_add_mod]

theorem t_fetch_at (c : Dev nD) (s : Fin 4) (h : Fin 2) (r : ℕ) (hr : r < 8) (off : Fin 2 → ℕ) (inb)
    (ho : off = ![128 * (bwd c (4 * r + s.val)).val + 64 * h.val, 0]) :
    Tr m K c (fetch tM cc0_scratch7 (wM.slice (Rect.unit (s := S4096x8192) off S64x8192.size inb) (fun _ => rfl)) s h)
      iprop((dutyTok ER (cell c (some (.inr (s, h)))) r 0 ∗ wPts c (bwd c (4 * r + s.val)) h (W m c))
        ∗ (∃ f, wtPts c s h f) ∗ reached ER (cell c (some (.inr (s, h)))) r ∗ atPos ER (cell c (some (.inr (s, h)))) r ∅ 0)
      (fun _ => iprop(cred (tallyAt (cell c (some (.inr (s, h)))) () N2) ∗ atPos ER (cell c (some (.inr (s, h)))) r ∅ 0)) := by
  refine Tr.conseq (R' := fun _ => iprop(cred (tallyAt (cell c (some (.inr (s, h)))) () N2) ∗ atPos ER (cell c (some (.inr (s, h)))) r ∅ 0))
    (P' := iprop(∃ f : Vec F S4x128x8192 .f32, (((wM.slice (Rect.unit (s := S4096x8192) off S64x8192.size inb) (fun _ => rfl)).view.loc (c : Thread nD τ)
          ↦[(wM.slice (Rect.unit (s := S4096x8192) off S64x8192.size inb) (fun _ => rfl)).view.set]{fullShare} W m c)
        ∗ ((wtV tM s h).view.loc (c : Thread nD τ) ↦[(wtV tM s h).view.set]{fullShare} f)
        ∗ dutyTok ER (cell c (some (.inr (s, h)))) r 0 ∗ reached ER (cell c (some (.inr (s, h)))) r)
        ∗ atPos ER (cell c (some (.inr (s, h)))) r ∅ 0)) ?_ ?_ (fun _ => BI.Entails.refl _)
  · refine Tr.exists fun f => ?_
    exact Tr.frame (atPos ER (cell c (some (.inr (s, h)))) r ∅ 0) (tr_copy (m := m) (K := K) c (some (.inr (s, h))) (wSem_eq s h)
      (wM.slice (Rect.unit (s := S4096x8192) off S64x8192.size inb) (fun _ => rfl)) (wtV tM s h) _ _ _ rfl r
      (if_pos hr) (W m c) f
      (by
        rw [wtV_set, wBk_set off inb (bwd c (4 * r + s.val)) h ho]
        exact sep_mono_left (Entails.of_eq (pointsTo_congr (land_w m c (4 * r + s.val) s h off inb ho f)))))
  · rw [wtV_set, wBk_set off inb (bwd c (4 * r + s.val)) h ho]
    unfold wtPts wPts
    iintro ⟨-, ⟨Ht, Hw⟩, ⟨%f, Hs⟩, Hr, Ha⟩
    iexists f
    isplitr [Ha]
    · isplitl [Hw]; · iexact Hw
      isplitl [Hs]; · iexact Hs
      isplitl [Ht]; · iexact Ht
      iexact Hr
    iexact Ha

theorem t_fetch (c : Dev nD) (k : ℕ) (hk : k < 32) (h : Fin 2) (s : Fin 4) (hs : s = slotOf k) (off : Fin 2 → ℕ) (inb)
    (ho : off = ![128 * (bwd c k).val + 64 * h.val, 0]) :
    Tr m K c (fetch tM cc0_scratch7 (wM.slice (Rect.unit (s := S4096x8192) off S64x8192.size inb) (fun _ => rfl)) s h)
      iprop(Fresh m c k h ∗ Avail c k h) (fun _ => Fly c k h) := by
  have e : 4 * (k / 4) + (slotOf k).val = k := Nat.div_add_mod k 4
  have h := t_fetch_at (m := m) (K := K) c (slotOf k) h (k / 4) (by omega) off inb (by rw [e]; exact ho)
  rw [e] at h
  subst hs
  exact h

theorem t_await (c : Dev nD) (k : ℕ) (hk : k < 32) (h : Fin 2) (s : Fin 4) (hs : s = slotOf k) (src : Memref sig .tc .hbm S64x8192 .f32)
    (O : CellTallies nD τ sig Unit) (hO : Above 0 O) :
    Tr m K c (await tM cc0_scratch7 src s h) iprop(Fly c k h ∗ ow c O) (fun _ => iprop(Here m c k h ∗ ow c O)) := by
  subst hs
  refine ((tr_wait (m := m) (K := K) c (kW k h) (wSem_eq (slotOf k) h) src (wtV tM (slotOf k) h) _ _ rfl (k / 4)
    (duties_w c k h (by omega)) O hO).pre ?_).post ?_
  · unfold Fly
    iintro ⟨⟨H1, H2⟩, H3⟩
    isplitl [H1]; · iexact H1
    isplitl [H2]; · iexact H2
    iexact H3
  · intro _
    rw [payK_w]
    unfold Here
    iintro ⟨⟨H1, H2⟩, H3, H4, H5⟩
    isplitr [H5]
    · isplitl [H1]; · iexact H1
      isplitl [H2]; · iexact H2
      isplitl [H4]; · iexact H4
      iexact H3
    iexact H5

/-! ## The exchange of the maxima -/

def AAgs (c : Dev nD) (k : ℕ) : sProp 𝕄 :=
  iprop(boxPts c (shareTokN fullShare k) (BX m c) ∗ (∃ f, amPts (fwd c k) c f) ∗ dutyTok ER (cell c (kAgs k)) 0 0
    ∗ dutyTok ER (cell (fwd c k) (kAgr c)) 0 0)
def BAgs (c : Dev nD) (k : ℕ) : sProp 𝕄 := cred (tallyAt (cell c (kAgs k)) () N3)

theorem box_set : (bM : Memref sig .tc .vmem S8x128 .f32).view.set = Finset.univ := View.set_whole _

theorem t_ags (c : Dev nD) (i : Fin 31) :
    Tr m K c (agOp bM hbM aM cc0_scratch8 cc0_scratch9 c i)
      iprop(AAgs m c (1 + i.val) ∗ ow c (OA c (1 + i.val)))
      (fun _ => iprop(BAgs c (1 + i.val) ∗ ow c (OA c (1 + (i.val + 1))))) := by
  have hi := i.isLt
  rw [Nat.add_comm 1 i.val, Nat.add_comm 1 (i.val + 1), OA_step c (show i.val + 1 < 32 by omega)]
  have hne : c ≠ agDev i c := by rw [agDev_eq]; exact (fwd_ne c (by omega) (by omega)).symm
  refine Tr.conseq (R' := fun _ => iprop(BAgs c (i.val + 1) ∗ ow c (OA c (i.val + 1 + 1))))
    (P' := iprop(∃ f, ((bM : Memref sig .tc .vmem S8x128 .f32).view.loc (c : Thread nD τ) ↦[(bM : Memref sig .tc .vmem S8x128 .f32).view.set]{shareTokN fullShare (i.val + 1)} BX m c)
      ∗ ((amMe aM c).view.loc (agDev i c : Thread nD τ) ↦[(amMe aM c).view.set]{fullShare} f)
        ∗ dutyTok ER (cell c (kAgs (i.val + 1))) 0 0 ∗ dutyTok ER (cell (agDev i c) (kAgr c)) 0 0
        ∗ ow c (OA c (i.val + 1 + 1) + tallyAt (cell (agDev i c) (kAgr c)) () N3))) ?_ ?_ (fun _ => BI.Entails.refl _)
  · refine Tr.exists fun f => ?_
    exact tr_send (m := m) (K := K) c (agDev i c) (kAgs (i.val + 1)) (kAgr c) (semAgs_eq i) (semAgrMe_eq c) bM (amMe aM c) rfl _ _ _
      rfl rfl (duties_ags c (by omega) (by omega)) (duties_agr (agDev i c) c hne) (shareTokN fullShare (i.val + 1)) (BX m c) f
      (by
        rw [payK_ags m c (show i.val + 1 < 32 by omega), box_set]
        exact BI.Entails.refl _)
      (by
        rw [payK_agr, amMe_set]
        exact Entails.of_eq (pointsTo_congr (land_am m c f)))
      (OA c (i.val + 1 + 1))
  · rw [box_set, amMe_set, agDev_eq]
    unfold AAgs boxPts amPts oA
    iintro ⟨-, ⟨Hx, ⟨%f, Hr⟩, Ht, Ht'⟩, HO⟩
    iexists f
    isplitl [Hx]; · iexact Hx
    isplitl [Hr]; · iexact Hr
    isplitl [Ht]; · iexact Ht
    isplitl [Ht']; · iexact Ht'
    iexact HO

def AAgr (c : Dev nD) (k : ℕ) : sProp 𝕄 :=
  iprop(cred (tallyAt (cell c (kAgr (fwd c k))) () N3) ∗ atPos ER (cell c (kAgr (fwd c k))) 0 ∅ 0)
def BAgr (c : Dev nD) (k : ℕ) : sProp 𝕄 :=
  iprop(amPts c (fwd c k) (AA m) ∗ atPos ER (cell c (kAgr (fwd c k))) 1 ∅ 0)

theorem t_agr (c : Dev nD) (i : Fin 31) :
    Tr m K c (agWait bM hbM aM cc0_scratch9 c i) iprop(AAgr c (1 + i.val) ∗ ow c 0)
      (fun _ => iprop(BAgr m c (1 + i.val) ∗ ow c 0)) := by
  have hi := i.isLt
  rw [Nat.add_comm 1 i.val]
  refine ((tr_wait (m := m) (K := K) c (kAgr (fwd c (i.val + 1))) (agSem_eq c i) bM (amV aM c i) _ _ rfl 0
    (duties_agr c _ (fwd_ne c (by omega) (by omega))) 0 (Above.zero _)).pre ?_).post ?_
  · unfold AAgr
    iintro ⟨⟨H1, H2⟩, H3⟩
    isplitl [H1]; · iexact H1
    isplitl [H2]; · iexact H2
    iexact H3
  · intro _
    unfold BAgr
    rw [payK_agr]
    iintro ⟨H1, H2, -, H3⟩
    isplitl [H1 H2]
    · isplitl [H1]; · iexact H1
      iexact H2
    iexact H3

def AAgsW (c : Dev nD) (k : ℕ) : sProp 𝕄 := iprop(BAgs c k ∗ atPos ER (cell c (kAgs k)) 0 ∅ 0)
def BAgsW (c : Dev nD) (k : ℕ) : sProp 𝕄 :=
  iprop(boxPts c (shareTokN fullShare k) (BX m c) ∗ atPos ER (cell c (kAgs k)) 1 ∅ 0)

theorem t_agsWait (c : Dev nD) (i : Fin 31) :
    Tr m K c (agSendWait bM hbM aM cc0_scratch8 c i) iprop(AAgsW c (1 + i.val) ∗ ow c 0)
      (fun _ => iprop(BAgsW m c (1 + i.val) ∗ ow c 0)) := by
  have hi := i.isLt
  rw [Nat.add_comm 1 i.val]
  refine ((tr_wait (m := m) (K := K) c (kAgs (i.val + 1)) (semAgs_eq i) (amMe aM c) bM _ _ rfl 0
    (duties_ags c (by omega) (by omega)) 0 (Above.zero _)).pre ?_).post ?_
  · unfold AAgsW BAgs
    iintro ⟨⟨H1, H2⟩, H3⟩
    isplitl [H1]; · iexact H1
    isplitl [H2]; · iexact H2
    iexact H3
  · intro _
    unfold BAgsW
    rw [payK_ags m c (show i.val + 1 < 32 by omega)]
    iintro ⟨H1, H2, -, H3⟩
    isplitl [H1 H2]
    · isplitl [H1]; · iexact H1
      iexact H2
    iexact H3

end Recs

end Cert.K01
-- ==== Proof.Ring.lean ====
/-
# The steps of the multiplication

Loads and stores of the buffers, then one step of the ring of `w` blocks: fetch a block ahead, wait for the step's
block of `w` and of `x`, multiply and add.
-/
module

public import proofs.«01_k».proof.Proof.Steps

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

section Recs

variable {m : (ℓ : Loc nD τ sig) → Buf (Elt F) ℓ} {K : Dev nD × Ck → ℕ}

/-! ## Loads and stores -/

theorem Tr.bindEq {c : Dev nD} {α β : Type} {p : PG F α} {f : α → PG F β} {a : α} {P P' : sProp 𝕄} {S : β → sProp 𝕄}
    (h : Tr m K c p P (fun v => iprop(⌜v = a⌝ ∗ P'))) (h' : Tr m K c (f a) P' S) : Tr m K c (p >>= f) P S :=
  Tr.bind h fun v Q => by
    iintro ⟨HC, ⟨%e, HP⟩, HQ⟩
    subst e
    iapply (h' Q)
    isplitl [HC]; · iexact HC
    isplitl [HP]; · iexact HP
    iexact HQ

theorem tr_load (c : Dev nD) {sp : CoreSpace} {s : Shape} {e : EltTy} (M : Memref sig .tc sp s e) (r : LoadRect s) (hl : M.view.LoadsAt r)
    {S : Finset (Idx (M.view.loc (c : Thread nD τ)))} {q : PosShare TreeShare} {f : Buf (Elt F) (M.view.loc (c : Thread nD τ))}
    (hS : M.view.setOn r.set ⊆ S) :
    Tr m K c (Prog.lift (.load M r hl)) (M.view.loc (c : Thread nD τ) ↦[S]{q} f)
      (fun v => iprop(⌜v = M.view.readAt (Elt F) r f⌝ ∗ M.view.loc (c : Thread nD τ) ↦[S]{q} f)) := fun Q => by
  simp only [Prog.lift]
  iintro ⟨-, HP, HQ⟩
  iapply (wp_load 𝒱₀ (c : Thread nD τ) none Set.univ (m := M) hS) $$ [HP]; · iexact HP
  iintro HP
  rw [wp_ret]; imodintro
  iapply HQ
  isplitr; · ipureintro; rfl
  iexact HP

theorem tr_store (c : Dev nD) {sp : CoreSpace} {s : Shape} {e : EltTy} (M : Memref sig .tc sp s e) (r : Rect s) (w : r.shape.Idx → Elt F e)
    (hx) (hm) {S : Finset (Idx ((M.access r).loc (c : Thread nD τ)))} {f : Buf (Elt F) ((M.access r).loc (c : Thread nD τ))}
    (hS : (M.access r).setOn Finset.univ ⊆ S) :
    Tr m K c (Prog.lift (.store M r w Finset.univ hx hm)) ((M.access r).loc (c : Thread nD τ) ↦[S]{fullShare} f)
      (fun _ => (M.access r).loc (c : Thread nD τ) ↦[S]{fullShare} (M.access r).write (Elt F) f w Finset.univ) := fun Q => by
  simp only [Prog.lift]
  iintro ⟨-, HP, HQ⟩
  iapply (wp_store 𝒱₀ (c : Thread nD τ) none Set.univ (m := M) (r := r) (Mk := Finset.univ) hS) $$ [HP]; · iexact HP
  iintro HP
  rw [wp_ret]; imodintro
  iapply HQ
  iexact HP

theorem hz2 : (![0, 0] : Fin 2 → ℕ) = fun _ => 0 := by funext i; fin_cases i <;> rfl
theorem hz3 : (![0, 0, 0] : Fin 3 → ℕ) = fun _ => 0 := by funext i; fin_cases i <;> rfl

theorem tr_loadO (c : Dev nD) (f : Vec F S128x8192 .f32) :
    Tr m K c (loadO oM) (lO c ↦{fullShare} f) (fun v => iprop(⌜v = f⌝ ∗ lO c ↦{fullShare} f)) := by
  have h := tr_load (m := m) (K := K) c oM (Rect.unit (s := S128x8192) ![0, 0] S128x8192.size inb_S128x8192_S128x8192_0_0).toLoadRect
    (View.loadsAt_vmem h_S128x8192) (S := Finset.univ) (q := fullShare) (f := f) (Finset.subset_univ _)
  rw [show oM.view.readAt (Elt F) (Rect.unit (s := S128x8192) ![0, 0] S128x8192.size inb_S128x8192_S128x8192_0_0).toLoadRect f = f from
    Memref.readAt_unit_zero (Elt F) cc0_stg1_0 hz2 _ f] at h
  exact h

theorem tr_storeO (c : Dev nD) (f : Vec F S128x8192 .f32) (w : FVec F S128x8192 .f32) :
    Tr m K c (storeO oM w) (lO c ↦{fullShare} f) (fun _ => lO c ↦{fullShare} w) := by
  have h := tr_store (m := m) (K := K) c oM (Rect.unit (s := S128x8192) ![0, 0] S128x8192.size inb_S128x8192_S128x8192_0_0) w
    (View.stores_vmem_bits_univ h_S128x8192 rfl) (.inl rfl) (S := Finset.univ) (f := f) (Finset.subset_univ _)
  rw [show (oM.access (Rect.unit (s := S128x8192) ![0, 0] S128x8192.size inb_S128x8192_S128x8192_0_0)).write (Elt F) f w Finset.univ = w from
    Memref.write_access_unit_zero_univ (Elt F) cc0_stg1_0 hz2 _ f w] at h
  exact h

theorem whole_setOn {b : Ref sig .tc} {R S : Finset b.ty.shape.Idx} (h : ∀ y ∈ R, y ∈ S) :
    (Memref.whole b : Memref sig .tc _ _ _).view.setOn R ⊆ S := fun y hy => by
  obtain ⟨x, hx, rfl⟩ := Finset.mem_map.mp hy
  exact h x hx

theorem wt_disj (s : Fin 4) : Disjoint (wtSet s 0) (wtSet s 1) := by
  rw [Finset.disjoint_left]
  intro y h h'
  have a := (Finset.mem_filter.mp h).2.2
  have b := (Finset.mem_filter.mp h').2.2
  rw [a] at b
  exact absurd b (by decide)

theorem tr_loadW (c : Dev nD) (k : ℕ) (s : Fin 4) :
    Tr m K c (loadW tM s) iprop(wtPts c s 0 (WT m c k) ∗ wtPts c s 1 (WT m c k))
      (fun v => iprop(⌜v = wBlk m c (bwd c k)⌝ ∗ wtPts c s 0 (WT m c k) ∗ wtPts c s 1 (WT m c k))) := by
  have h := tr_load (m := m) (K := K) c tM (Rect.unit (s := S4x128x8192) ![s.val, 0, 0] S1x128x8192.size (inb_wt2 s)).toLoadRect
    (View.loadsAt_vmem h_S1x128x8192) (S := wtSet s 0 ∪ wtSet s 1) (q := fullShare) (f := WT m c k) (whole_setOn (w_set s))
  rw [read_w] at h
  have e : iprop(wtPts c s 0 (WT m c k) ∗ wtPts c s 1 (WT m c k)) ⊣⊢ (lT c ↦[wtSet s 0 ∪ wtSet s 1]{fullShare} WT m c k : sProp 𝕄) :=
    (pointsTo_union (wt_disj s)).symm
  refine (h.pre e.1).post fun v => ?_
  iintro ⟨H, H'⟩
  isplitl [H]; · iexact H
  iapply e.2
  iexact H'

theorem tr_loadRow (c : Dev nD) (i : Fin 31) :
    Tr m K c (Prog.lift (.load rM (Rect.unit (s := S32x128x128) (k0_off10 c (BitVec.ofNat 32 (1 + i.val))) S1x128x128.size (k0_off10_inb c i)).toLoadRect
        (View.loadsAt_vmem h_S1x128x128)))
      (rowPts c (bwd c (i.val + 1)) (XR m c))
      (fun v => iprop(⌜v = xRow m c (bwd c (i.val + 1))⌝ ∗ rowPts c (bwd c (i.val + 1)) (XR m c))) := by
  have h := tr_load (m := m) (K := K) c rM (Rect.unit (s := S32x128x128) (k0_off10 c (BitVec.ofNat 32 (1 + i.val))) S1x128x128.size (k0_off10_inb c i)).toLoadRect
    (View.loadsAt_vmem h_S1x128x128) (S := rowSet (bwd c (i.val + 1))) (q := fullShare) (f := XR m c) (whole_setOn (row_set c i))
  rw [read_row] at h
  exact h

theorem tr_loadOwn (c : Dev nD) :
    Tr m K c (Prog.lift (.load sM (Rect.unit (s := S4096x128) (k0_off7 c) S128x128.size (k0_off7_inb c)).toLoadRect (View.loadsAt_vmem h_S128x128)))
      (xsPts c c (XS m c)) (fun v => iprop(⌜v = xOwn m c⌝ ∗ xsPts c c (XS m c))) := by
  have h := tr_load (m := m) (K := K) c sM (Rect.unit (s := S4096x128) (k0_off7 c) S128x128.size (k0_off7_inb c)).toLoadRect
    (View.loadsAt_vmem h_S128x128) (S := xsSet c) (q := fullShare) (f := XS m c) (whole_setOn (own_set c))
  rw [read_own] at h
  exact h

/-! ## The ring -/

/-- A block of `w` back after its landing. -/
def Done (m : (ℓ : Loc nD τ sig) → Buf (Elt F) ℓ) (c : Dev nD) (k : ℕ) : sProp 𝕄 :=
  iprop(wPts c (bwd c k) 0 (W m c) ∗ wPts c (bwd c k) 1 (W m c))
/-- Both halves at once. -/
def Fresh2 (m : (ℓ : Loc nD τ sig) → Buf (Elt F) ℓ) (c : Dev nD) (k : ℕ) : sProp 𝕄 := iprop(Fresh m c k 0 ∗ Fresh m c k 1)
def Avail2 (c : Dev nD) (k : ℕ) : sProp 𝕄 := iprop(Avail c k 0 ∗ Avail c k 1)
def Fly2 (c : Dev nD) (k : ℕ) : sProp 𝕄 := iprop(Fly c k 0 ∗ Fly c k 1)
def Here2 (m : (ℓ : Loc nD τ sig) → Buf (Elt F) ℓ) (c : Dev nD) (k : ℕ) : sProp 𝕄 := iprop(Here m c k 0 ∗ Here m c k 1)

theorem slot4 (k : ℕ) : slotOf (k + 4) = slotOf k := Fin.ext (by show (k + 4) % 4 = k % 4; omega)

/-- A slot is free for the block four steps on. -/
theorem here_avail (c : Dev nD) (k : ℕ) (h : Fin 2) :
    Here m c k h ⊢ iprop(Avail c (k + 4) h ∗ wPts c (bwd c k) h (W m c)) := by
  unfold Here Avail
  rw [show kW (k + 4) h = kW k h from by unfold kW; rw [slot4], slot4, show (k + 4) / 4 = k / 4 + 1 by omega]
  iintro ⟨H1, H2, H3, H4⟩
  isplitr [H2]
  · isplitl [H1]; · iexists _; iexact H1
    isplitl [H3]; · iexact H3
    iexact H4
  iexact H2

theorem here2_avail (c : Dev nD) (k : ℕ) : Here2 m c k ⊢ iprop(Avail2 c (k + 4) ∗ Done m c k) := by
  unfold Here2 Avail2 Done
  iintro ⟨H, H'⟩
  ihave H := here_avail c k 0 $$ H
  ihave H' := here_avail c k 1 $$ H'
  icases H with ⟨H1, H2⟩
  icases H' with ⟨H3, H4⟩
  isplitl [H1 H3]
  · isplitl [H1]; · iexact H1
    iexact H3
  isplitl [H2]; · iexact H2
  iexact H4

/-- Both halves of a block fetched. -/
theorem t_fetch2 (c : Dev nD) (k : ℕ) (hk : k < 32) (s : Fin 4) (hs : s = slotOf k) (off off' : Fin 2 → ℕ) (inb) (inb')
    (ho : off = ![128 * (bwd c k).val, 0]) (ho' : off' = ![128 * (bwd c k).val + 64, 0]) :
    Tr m K c (do
        fetch tM cc0_scratch7 (wM.slice (Rect.unit (s := S4096x8192) off S64x8192.size inb) (fun _ => rfl)) s 0
        fetch tM cc0_scratch7 (wM.slice (Rect.unit (s := S4096x8192) off' S64x8192.size inb') (fun _ => rfl)) s 1)
      iprop(Fresh2 m c k ∗ Avail2 c k) (fun _ => Fly2 c k) := by
  refine Tr.pre (P' := iprop((Fresh m c k 0 ∗ Avail c k 0) ∗ (Fresh m c k 1 ∗ Avail c k 1))) ?_ ?_
  · refine Tr.bind (Tr.frame _ (t_fetch m c k hk 0 s hs off inb (by rw [ho]; rfl))) fun _ => ?_
    refine Tr.post (Tr.pre (Tr.frame (Fly c k 0) (t_fetch m c k hk 1 s hs off' inb' (by rw [ho']; rfl))) ?_) fun _ => ?_
    · iintro ⟨H, H'⟩
      isplitl [H']; · iexact H'
      iexact H
    · unfold Fly2
      iintro ⟨H, H'⟩
      isplitl [H']; · iexact H'
      iexact H
  · unfold Fresh2 Avail2
    iintro ⟨⟨H1, H2⟩, ⟨H3, H4⟩⟩
    isplitl [H1 H3]
    · isplitl [H1]; · iexact H1
      iexact H3
    isplitl [H2]; · iexact H2
    iexact H4

theorem t_await2 (c : Dev nD) (k : ℕ) (hk : k < 32) (s : Fin 4) (hs : s = slotOf k) (src src' : Memref sig .tc .hbm S64x8192 .f32)
    (O : CellTallies nD τ sig Unit) (hO : Above 0 O) {α : Type} (p : PG F α) (X : sProp 𝕄) (S : α → sProp 𝕄)
    (h : Tr m K c p iprop(Here2 m c k ∗ ow c O ∗ X) S) :
    Tr m K c (await tM cc0_scratch7 src s 0 >>= fun _ => await tM cc0_scratch7 src' s 1 >>= fun _ => p)
      iprop(Fly2 c k ∗ ow c O ∗ X) S := by
  refine Tr.bind (Tr.pre (Tr.frame iprop(Fly c k 1 ∗ X) (t_await (m := m) c k hk 0 s hs src O hO)) ?_) fun _ => ?_
  · unfold Fly2
    iintro ⟨⟨H1, H2⟩, HO, HX⟩
    isplitl [H1 HO]
    · isplitl [H1]; · iexact H1
      iexact HO
    isplitl [H2]; · iexact H2
    iexact HX
  refine Tr.bind (Tr.pre (Tr.frame iprop(Here m c k 0 ∗ X) (t_await (m := m) c k hk 1 s hs src' O hO)) ?_) fun _ => ?_
  · iintro ⟨⟨H1, HO⟩, H2, HX⟩
    isplitl [H2 HO]
    · isplitl [H2]; · iexact H2
      iexact HO
    isplitl [H1]; · iexact H1
    iexact HX
  refine Tr.pre h ?_
  unfold Here2
  iintro ⟨⟨H1, HO⟩, H2, HX⟩
  isplitl [H1 H2]
  · isplitl [H2]; · iexact H2
    iexact H1
  isplitl [HO]; · iexact HO
  iexact HX

end Recs

end Cert.K01
-- ==== Proof.Loop.lean ====
/-
# The ring

The first step, the loop that fetches three blocks ahead, and the last three steps.
-/
module

public import proofs.«01_k».proof.Proof.Ring

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

section Recs

variable {m : (ℓ : Loc nD τ sig) → Buf (Elt F) ℓ} {K : Dev nD × Ck → ℕ}

theorem off4_eq (c : Dev nD) (h : Fin 2) : k0_off4 c (BitVec.ofNat 32 (64 * h.val)) = ![128 * (bwd c 0).val + 64 * h.val, 0] := by
  rw [k0_off4_eq, bwd_val]
  have := dev_lt c
  congr 2
  omega
theorem off5_eq (c : Dev nD) (i : Fin 31) (h : Fin 2) :
    k0_off5 c (BitVec.ofNat 32 (1 + i.val)) (BitVec.ofNat 32 (64 * h.val)) = ![128 * (bwd c (i.val + 1)).val + 64 * h.val, 0] := by
  rw [k0_off5_eq, bwd_val]
  have := dev_lt c
  congr 2
  omega
theorem off6_eq (c : Dev nD) (i : Fin 29) (h : Fin 2) :
    k0_off6 c (BitVec.ofNat 32 i.val) (BitVec.ofNat 32 (64 * h.val)) = ![128 * (bwd c (i.val + 3)).val + 64 * h.val, 0] := by
  rw [k0_off6_eq, bwd_val]
  have := dev_lt c
  congr 2
  omega

theorem t_fetch6 (c : Dev nD) (i : Fin 29) :
    Tr m K c (fetch6 wM tM cc0_scratch7 c i) iprop(Fresh2 m c (i.val + 3) ∗ Avail2 c (i.val + 3)) (fun _ => Fly2 c (i.val + 3)) :=
  t_fetch2 c (i.val + 3) (by have := i.isLt; omega) (slotOf (i.val + 3)) rfl _ _ (k0_off6_inb c i 0) (k0_off6_inb c i 1)
    ((off6_eq c i 0).trans (by rfl)) ((off6_eq c i 1).trans (by rfl))

/-- The first three blocks fetched. -/
theorem t_fetches (c : Dev nD) :
    Tr m K c (fetches wM tM cc0_scratch7 c)
      iprop((Fresh2 m c 0 ∗ Avail2 c 0) ∗ (Fresh2 m c 1 ∗ Avail2 c 1) ∗ (Fresh2 m c 2 ∗ Avail2 c 2))
      (fun _ => iprop(Fly2 c 0 ∗ Fly2 c 1 ∗ Fly2 c 2)) := by
  have h0 := t_fetch2 (m := m) (K := K) c 0 (by decide) 0 rfl _ _ (k0_off4_inb c 0) (k0_off4_inb c 1)
    ((off4_eq c 0).trans (by rfl)) ((off4_eq c 1).trans (by rfl))
  have h1 := t_fetch2 (m := m) (K := K) c 1 (by decide) 1 rfl _ _ (k0_off5_inb c 0 0) (k0_off5_inb c 0 1)
    ((off5_eq c 0 0).trans (by rfl)) ((off5_eq c 0 1).trans (by rfl))
  have h2 := t_fetch2 (m := m) (K := K) c 2 (by decide) 2 rfl _ _ (k0_off5_inb c 1 0) (k0_off5_inb c 1 1)
    ((off5_eq c 1 0).trans (by rfl)) ((off5_eq c 1 1).trans (by rfl))
  have h := Tr.bind (Tr.frame iprop((Fresh2 m c 1 ∗ Avail2 c 1) ∗ (Fresh2 m c 2 ∗ Avail2 c 2)) h0) (fun _ =>
    Tr.bind (((Tr.frame iprop(Fly2 c 0 ∗ (Fresh2 m c 2 ∗ Avail2 c 2)) h1).pre (P := iprop(Fly2 c 0 ∗ (Fresh2 m c 1 ∗ Avail2 c 1) ∗ (Fresh2 m c 2 ∗ Avail2 c 2)))
      (by
        iintro ⟨H1, H2, H3⟩
        isplitl [H2]; · iexact H2
        isplitl [H1]; · iexact H1
        iexact H3)).post (R := fun _ => iprop((Fresh2 m c 2 ∗ Avail2 c 2) ∗ (Fly2 c 0 ∗ Fly2 c 1))) (fun _ => by
        iintro ⟨H1, H2, H3⟩
        isplitl [H3]; · iexact H3
        isplitl [H2]; · iexact H2
        iexact H1)) (fun _ => (Tr.frame iprop(Fly2 c 0 ∗ Fly2 c 1) h2).post (R := fun _ => iprop(Fly2 c 0 ∗ Fly2 c 1 ∗ Fly2 c 2)) (fun _ => by
        iintro ⟨H1, H2, H3⟩
        isplitl [H2]; · iexact H2
        isplitl [H3]; · iexact H3
        iexact H1)))
  exact h

theorem Tr.bindEqF {c : Dev nD} {α β : Type} {p : PG F α} {f : α → PG F β} {a : α} {P P' X : sProp 𝕄} {S : β → sProp 𝕄}
    (h : Tr m K c p P (fun v => iprop(⌜v = a⌝ ∗ P'))) (h' : Tr m K c (f a) iprop(P' ∗ X) S) : Tr m K c (p >>= f) iprop(P ∗ X) S :=
  Tr.bindEq ((Tr.frame X h).post fun v => by iintro ⟨⟨H1, H2⟩, H3⟩; iframe) h'

/-- One block's product added. -/
theorem t_mul (c : Dev nD) (i : Fin 31) :
    Tr m K c (do
        let xs : Vec F S1x128x128 .bf16 ← Prog.lift (.load rM (Rect.unit (s := S32x128x128) (k0_off10 c (BitVec.ofNat 32 (1 + i.val))) S1x128x128.size (k0_off10_inb c i)).toLoadRect (View.loadsAt_vmem h_S1x128x128))
        let wt : Vec F S1x128x8192 .f32 ← loadW tM (slotOf (i.val + 1))
        let acc : Vec F S128x8192 .f32 ← loadO oM
        let _acc : Vec F S128x8192 .f32 ← loadO oM
        storeO oM (gemm xs wt acc))
      iprop(rowPts c (bwd c (i.val + 1)) (XR m c)
        ∗ (wtPts c (slotOf (i.val + 1)) 0 (WT m c (i.val + 1)) ∗ wtPts c (slotOf (i.val + 1)) 1 (WT m c (i.val + 1)))
        ∗ lO c ↦{fullShare} out m c i.val)
      (fun _ => iprop(rowPts c (bwd c (i.val + 1)) (XR m c)
        ∗ (wtPts c (slotOf (i.val + 1)) 0 (WT m c (i.val + 1)) ∗ wtPts c (slotOf (i.val + 1)) 1 (WT m c (i.val + 1)))
        ∗ lO c ↦{fullShare} out m c (i.val + 1))) := by
  refine Tr.bindEqF (tr_loadRow c i) ?_
  refine Tr.pre (P' := iprop((wtPts c (slotOf (i.val + 1)) 0 (WT m c (i.val + 1)) ∗ wtPts c (slotOf (i.val + 1)) 1 (WT m c (i.val + 1)))
    ∗ rowPts c (bwd c (i.val + 1)) (XR m c) ∗ lO c ↦{fullShare} out m c i.val)) ?_ (by iintro ⟨H1, H2, H3⟩; iframe)
  refine Tr.bindEqF (tr_loadW c (i.val + 1) _) ?_
  refine Tr.pre (P' := iprop((lO c ↦{fullShare} out m c i.val)
    ∗ rowPts c (bwd c (i.val + 1)) (XR m c) ∗ (wtPts c (slotOf (i.val + 1)) 0 (WT m c (i.val + 1)) ∗ wtPts c (slotOf (i.val + 1)) 1 (WT m c (i.val + 1))))) ?_
    (by iintro ⟨H1, H2, H3⟩; iframe)
  refine Tr.bindEqF (tr_loadO c _) ?_
  refine Tr.bindEqF (tr_loadO c _) ?_
  exact (Tr.frame _ (tr_storeO c _ (out m c (i.val + 1)))).post fun _ => by iintro ⟨H1, H2, H3⟩; iframe

theorem t_step (c : Dev nD) (i : Fin 31) (O : CellTallies nD τ sig Unit) (hO : Above 2 O) :
    Tr m K c (stepOp wM oM rM hrM tM cc0_scratch6 cc0_scratch7 c i)
      iprop(Fly2 c (i.val + 1) ∗ ARecv c (i.val + 1) ∗ (lO c ↦{fullShare} out m c i.val) ∗ ow c O)
      (fun _ => iprop(Avail2 c (i.val + 5) ∗ Done m c (i.val + 1) ∗ BRecv m c (i.val + 1) ∗ (lO c ↦{fullShare} out m c (i.val + 1)) ∗ ow c O)) := by
  have hi := i.isLt
  have hO0 : Above 0 O := hO.mono (by decide)
  refine Tr.pre (P' := iprop(Fly2 c (i.val + 1) ∗ ow c O ∗ (ARecv c (i.val + 1) ∗ (lO c ↦{fullShare} out m c i.val)))) ?_
    (by iintro ⟨H1, H2, H3, H4⟩; iframe)
  refine t_await2 c (i.val + 1) (by omega) (slotOf (i.val + 1)) rfl _ _ O hO0 _ _ _ ?_
  refine Tr.bind (Tr.pre (Tr.frame iprop(Here2 m c (i.val + 1) ∗ (lO c ↦{fullShare} out m c i.val)) (t_recv m c i O hO)) ?_) fun _ => ?_
  · iintro ⟨H1, H2, H3, H4⟩; iframe
  have hm := Tr.frame iprop(ow c O ∗ atPos ER (cell c (kRecv (bwd c (i.val + 1)))) 1 ∅ 0 ∗ (wPts c (bwd c (i.val + 1)) 0 (W m c)
        ∗ reached ER (cell c (kW (i.val + 1) 0)) ((i.val + 1) / 4 + 1) ∗ atPos ER (cell c (kW (i.val + 1) 0)) ((i.val + 1) / 4 + 1) ∅ 0)
      ∗ (wPts c (bwd c (i.val + 1)) 1 (W m c)
        ∗ reached ER (cell c (kW (i.val + 1) 1)) ((i.val + 1) / 4 + 1) ∗ atPos ER (cell c (kW (i.val + 1) 1)) ((i.val + 1) / 4 + 1) ∅ 0))
    (t_mul (m := m) (K := K) c i)
  refine (hm.pre ?_).post fun _ => ?_
  · unfold BRecv Here2 Here
    iintro ⟨⟨⟨H1, H2⟩, H3⟩, ⟨⟨H4, H5, H6, H7⟩, ⟨H8, H9, HA, HB⟩⟩, HC⟩
    iframe
  · refine (show _ ⊢ iprop(Here2 m c (i.val + 1) ∗ BRecv m c (i.val + 1) ∗ (lO c ↦{fullShare} out m c (i.val + 1)) ∗ ow c O) from ?_).trans ?_
    · unfold BRecv Here2 Here
      iintro ⟨⟨H1, ⟨H4, H8⟩, H2⟩, H3, HC, ⟨H5, H6, H7⟩, ⟨H9, HA, HB⟩⟩
      iframe
    · iintro ⟨H, H2⟩
      ihave H := here2_avail c (i.val + 1) $$ H
      icases H with ⟨H3, H4⟩
      iframe

/-- What the loop carries. -/
def Ring (m : (ℓ : Loc nD τ sig) → Buf (Elt F) ℓ) (c : Dev nD) (O : CellTallies nD τ sig Unit) (i : ℕ) : sProp 𝕄 :=
  iprop(Fly2 c (i + 1) ∗ Fly2 c (i + 2) ∗ Fly2 c (i + 3) ∗ Avail2 c (i + 4) ∗ (lO c ↦{fullShare} out m c i) ∗ ow c O)

theorem t_ring (c : Dev nD) (i : Fin 28) (O : CellTallies nD τ sig Unit) (hO : Above 2 O) :
    Tr m K c (do
        fetch6 wM tM cc0_scratch7 c ⟨i.val + 1, by omega⟩
        stepOp wM oM rM hrM tM cc0_scratch6 cc0_scratch7 c ⟨i.val, by omega⟩)
      iprop((Fresh2 m c (1 + i.val + 3) ∗ ARecv c (1 + i.val)) ∗ Ring m c O i.val)
      (fun _ => iprop((Done m c (1 + i.val) ∗ BRecv m c (1 + i.val)) ∗ Ring m c O (i.val + 1))) := by
  rw [Nat.add_comm 1 i.val]
  unfold Ring
  refine Tr.bind ((Tr.frame iprop(ARecv c (i.val + 1) ∗ Fly2 c (i.val + 1) ∗ Fly2 c (i.val + 2) ∗ Fly2 c (i.val + 3) ∗ (lO c ↦{fullShare} out m c i.val) ∗ ow c O)
    (t_fetch6 (m := m) (K := K) c ⟨i.val + 1, by omega⟩)).pre ?_) fun _ => ?_
  · iintro ⟨⟨H1, H2⟩, H3, H4, H5, H6, H7, H8⟩
    iframe
  refine ((Tr.frame iprop(Fly2 c (i.val + 2) ∗ Fly2 c (i.val + 3) ∗ Fly2 c (i.val + 4))
    (t_step (m := m) (K := K) c ⟨i.val, by omega⟩ O hO)).pre ?_).post fun _ => ?_
  · iintro ⟨H1, H2, H3, H4, H5, H6, H7⟩
    iframe
  · iintro ⟨⟨H1, H2, H3, H4, H5⟩, H6, H7, H8⟩
    iframe

theorem t_ring_loop (c : Dev nD) (O : CellTallies nD τ sig Unit) (hO : Above 2 O) :
    Tr m K c (each 28 (fun i => do
        fetch6 wM tM cc0_scratch7 c ⟨i.val + 1, by omega⟩
        stepOp wM oM rM hrM tM cc0_scratch6 cc0_scratch7 c ⟨i.val, by omega⟩))
      iprop(bigSep (Finset.Ico 1 29) (fun k => iprop(Fresh2 m c (k + 3) ∗ ARecv c k)) ∗ Ring m c O 0)
      (fun _ => iprop(bigSep (Finset.Ico 1 29) (fun k => iprop(Done m c k ∗ BRecv m c k)) ∗ Ring m c O 28)) :=
  Tr.eachSep 1 28 _ (fun k => iprop(Fresh2 m c (k + 3) ∗ ARecv c k)) (fun k => iprop(Done m c k ∗ BRecv m c k)) (Ring m c O)
    fun i => t_ring c i O hO

theorem t_tail_loop (c : Dev nD) (O : CellTallies nD τ sig Unit) (hO : Above 2 O) :
    Tr m K c (each 3 (fun i => stepOp wM oM rM hrM tM cc0_scratch6 cc0_scratch7 c ⟨28 + i.val, by omega⟩))
      iprop(bigSep (Finset.Ico 29 32) (fun k => iprop(Fly2 c k ∗ ARecv c k)) ∗ ((lO c ↦{fullShare} out m c 28) ∗ ow c O))
      (fun _ => iprop(bigSep (Finset.Ico 29 32) (fun k => iprop(Avail2 c (k + 4) ∗ Done m c k ∗ BRecv m c k))
        ∗ ((lO c ↦{fullShare} out m c 31) ∗ ow c O))) :=
  Tr.eachSep 29 3 _ (fun k => iprop(Fly2 c k ∗ ARecv c k)) (fun k => iprop(Avail2 c (k + 4) ∗ Done m c k ∗ BRecv m c k))
    (fun i => iprop((lO c ↦{fullShare} out m c (28 + i)) ∗ ow c O)) fun i => by
      refine ((t_step (m := m) (K := K) c ⟨28 + i.val, by omega⟩ O hO).pre ?_).post fun _ => ?_
      · rw [show 29 + i.val = 28 + i.val + 1 by omega]
        iintro ⟨⟨H1, H2⟩, H3, H4⟩
        iframe
      · rw [show 29 + i.val = 28 + i.val + 1 by omega, ← Nat.add_assoc 28 i.val 1]
        iintro ⟨H1, H2, H3, H4, H5⟩
        iframe

/-- The first step. -/
theorem t_step0 (c : Dev nD) (O : CellTallies nD τ sig Unit) (hO : Above 2 O) (f : Vec F S128x8192 .f32) :
    Tr m K c (step0 wM oM sM tM cc0_scratch7 c)
      iprop((Fresh2 m c 3 ∗ Avail2 c 3) ∗ Fly2 c 0 ∗ xsPts c c (XS m c) ∗ (lO c ↦{fullShare} f) ∗ ow c O)
      (fun _ => iprop(Fly2 c 3 ∗ Avail2 c 4 ∗ Done m c 0 ∗ xsPts c c (XS m c) ∗ (lO c ↦{fullShare} out m c 0) ∗ ow c O)) := by
  have hO0 : Above 0 O := hO.mono (by decide)
  refine Tr.bind (Tr.frame _ (t_fetch6 (m := m) (K := K) c 0)) fun _ => ?_
  refine Tr.pre (P' := iprop(Fly2 c 0 ∗ ow c O ∗ (xsPts c c (XS m c) ∗ (lO c ↦{fullShare} f) ∗ Fly2 c 3))) ?_
    (by show iprop(Fly2 c 3 ∗ _) ⊢ _
        iintro ⟨H1, H2, H3, H4, H5⟩; iframe)
  refine t_await2 c 0 (by omega) 0 rfl _ _ O hO0 _ _ _ ?_
  refine Tr.pre (P' := iprop(xsPts c c (XS m c) ∗ Here2 m c 0 ∗ ow c O ∗ (lO c ↦{fullShare} f) ∗ Fly2 c 3)) ?_
    (by iintro ⟨H1, H2, H3, H4, H5⟩; iframe)
  refine Tr.bindEqF (tr_loadOwn c) ?_
  refine Tr.pre (P' := iprop((wtPts c (slotOf 0) 0 (WT m c 0) ∗ wtPts c (slotOf 0) 1 (WT m c 0)) ∗ (wPts c (bwd c 0) 0 (W m c)
        ∗ reached ER (cell c (kW 0 0)) (0 / 4 + 1) ∗ atPos ER (cell c (kW 0 0)) (0 / 4 + 1) ∅ 0)
      ∗ (wPts c (bwd c 0) 1 (W m c)
        ∗ reached ER (cell c (kW 0 1)) (0 / 4 + 1) ∗ atPos ER (cell c (kW 0 1)) (0 / 4 + 1) ∅ 0)
      ∗ xsPts c c (XS m c) ∗ ow c O ∗ (lO c ↦{fullShare} f) ∗ Fly2 c 3)) ?_ ?_
  · refine Tr.bindEqF (tr_loadW c 0 (slotOf 0)) ?_
    refine Tr.pre (P' := iprop((lO c ↦{fullShare} f) ∗ (wtPts c (slotOf 0) 0 (WT m c 0) ∗ wtPts c (slotOf 0) 1 (WT m c 0)) ∗ (wPts c (bwd c 0) 0 (W m c)
        ∗ reached ER (cell c (kW 0 0)) (0 / 4 + 1) ∗ atPos ER (cell c (kW 0 0)) (0 / 4 + 1) ∅ 0)
      ∗ (wPts c (bwd c 0) 1 (W m c)
        ∗ reached ER (cell c (kW 0 1)) (0 / 4 + 1) ∗ atPos ER (cell c (kW 0 1)) (0 / 4 + 1) ∅ 0)
      ∗ xsPts c c (XS m c) ∗ ow c O ∗ Fly2 c 3)) ?_ (by iintro ⟨H1, H2, H3, H4, H5, H6, H7⟩; iframe)
    refine Tr.bindEqF (tr_loadO c _) ?_
    refine (Tr.frame _ (tr_storeO c _ (out m c 0))).post fun _ => ?_
    refine (show _ ⊢ iprop(Here2 m c 0 ∗ Fly2 c 3 ∗ xsPts c c (XS m c) ∗ (lO c ↦{fullShare} out m c 0) ∗ ow c O) from ?_).trans ?_
    · unfold Here2 Here
      iintro ⟨H1, ⟨H2, H3⟩, ⟨H4, H5, H6⟩, ⟨H7, H8, H9⟩, HA, HB, HC⟩
      iframe
    · iintro ⟨H, H2, H3, H4, H5⟩
      ihave H := here2_avail c 0 $$ H
      icases H with ⟨H6, H7⟩
      iframe
  · unfold Here2 Here
    iintro ⟨H1, ⟨⟨H2, H3, H4, H5⟩, H6, H7, H8, H9⟩, HA, HB, HC⟩
    iframe

end Recs

end Cert.K01
-- ==== Proof.Phase.lean ====
/-
# The local phases

The cast of a device's columns, its maximum and its quantisation.
-/
module

public import proofs.«01_k».proof.Proof.Loop

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

/-! ## The mask of a device's own row -/

theorem me_eq : ∀ c : Dev nD, Scalar.remsi (Scalar.divsi (Dev.word c) 1#32) 32#32 = BitVec.ofNat 32 c.val := by decide +kernel

theorem cmp_eq : ∀ p c : Fin 32, IntOp.cmpi .eq (BitVec.ofNat 32 (0 * 32 + p.val)) (BitVec.ofNat 32 c.val) = if p = c then 1#1 else 0#1 := by
  decide +kernel

theorem mask_apply (c : Dev nD) (y : S32x8x128.Idx) :
    k0_pay42 (Scalar.remsi (Scalar.divsi (Dev.word c) 1#32) 32#32) y = if (⟨(y 0).val, (y 0).isLt⟩ : Dev nD) = c then 1#1 else 0#1 := by
  rw [me_eq]
  exact cmp_eq ⟨(y 0).val, (y 0).isLt⟩ c

/-- A device's own row is not read. -/
theorem pay43_congr (c : Dev nD) (a : F .f32) (v v' : Vec F S32x8x128 .f32) (o : Vec F S128x8192 .f32)
    (h : ∀ y, (⟨(y 0).val, (y 0).isLt⟩ : Dev nD) ≠ c → v y = v' y) :
    k0_pay43 a (k0_pay42 (Scalar.remsi (Scalar.divsi (Dev.word c) 1#32) 32#32)) v o
      = k0_pay43 a (k0_pay42 (Scalar.remsi (Scalar.divsi (Dev.word c) 1#32) 32#32)) v' o := by
  have hs : ∀ b : Vec F S32x8x128 .f32, select (k0_pay42 (Scalar.remsi (Scalar.divsi (Dev.word c) 1#32) 32#32)) b v
      = select (k0_pay42 (Scalar.remsi (Scalar.divsi (Dev.word c) 1#32) 32#32)) b v' := fun b => funext fun y => by
    rw [ValueIdx.select_apply, ValueIdx.select_apply, mask_apply]
    by_cases e : (⟨(y 0).val, (y 0).isLt⟩ : Dev nD) = c
    · rw [if_pos e]; rfl
    · rw [if_neg e, h y e]
  simp only [k0_pay43]
  rw [hs]

section Recs

variable {m : (ℓ : Loc nD τ sig) → Buf (Elt F) ℓ} {K : Dev nD × Ck → ℕ}

theorem t_cast (c : Dev nD) (f : Vec F S4096x128 .bf16) :
    Tr m K c (castOp xM sM hsM) iprop((lX c ↦{fullShare} X m c) ∗ lS c ↦{fullShare} f)
      (fun _ => iprop((lS c ↦{fullShare} XS m c) ∗ lX c ↦{fullShare} X m c)) := by
  have h := tr_load (m := m) (K := K) c xM (Rect.unit (s := S4096x128) ![0, 0] S4096x128.size inb_S4096x128_S4096x128_0_0).toLoadRect
    (View.loadsAt_vmem h_S4096x128) (S := Finset.univ) (q := fullShare) (f := X m c) (Finset.subset_univ _)
  rw [show xM.view.readAt (Elt F) (Rect.unit (s := S4096x128) ![0, 0] S4096x128.size inb_S4096x128_S4096x128_0_0).toLoadRect (X m c) = X m c from
    Memref.readAt_unit_zero (Elt F) cc0_stg0_0 hz2 _ _] at h
  have h' := tr_load (m := m) (K := K) c sM (Rect.unit (s := S4096x128) ![0, 0] S4096x128.size inb_S4096x128_S4096x128_0_0).toLoadRect
    (View.loadsAt_vmem h_S4096x128) (S := Finset.univ) (q := fullShare) (f := f) (Finset.subset_univ _)
  have hs := tr_store (m := m) (K := K) c sM (Rect.unit (s := S4096x128) ![0, 0] S4096x128.size inb_S4096x128_S4096x128_0_0) (XS m c)
    (View.stores_vmem h_S4096x128 (hsM.storeExact_slice rfl _ packedbf16_S4096x128_S4096x128_0_0) (fun _ => rfl)) (.inl rfl)
    (S := Finset.univ) (f := f) (Finset.subset_univ _)
  rw [show (sM.access (Rect.unit (s := S4096x128) ![0, 0] S4096x128.size inb_S4096x128_S4096x128_0_0)).write (Elt F) f (XS m c) Finset.univ = XS m c from
    Memref.write_access_unit_zero_univ (Elt F) cc0_scratch0 hz2 _ f _] at hs
  refine Tr.bindEqF h ?_
  refine Tr.pre (P' := iprop((lS c ↦{fullShare} f) ∗ lX c ↦{fullShare} X m c)) ?_ (by iintro ⟨H1, H2⟩; iframe)
  refine Tr.bindEqF h' ?_
  exact Tr.frame _ hs

theorem t_box (c : Dev nD) (f : Vec F S8x128 .f32) :
    Tr m K c (boxOp oM bM) iprop((lO c ↦{fullShare} out m c 31) ∗ lB c ↦{fullShare} f)
      (fun a => iprop(⌜a = AM m c⌝ ∗ (lO c ↦{fullShare} out m c 31) ∗ lB c ↦{fullShare} BX m c)) := by
  have h' := tr_load (m := m) (K := K) c bM (Rect.unit (s := S8x128) ![0, 0] S8x128.size inb_S8x128_S8x128_0_0).toLoadRect
    (View.loadsAt_vmem h_S8x128) (S := Finset.univ) (q := fullShare) (f := f) (Finset.subset_univ _)
  have hs := tr_store (m := m) (K := K) c bM (Rect.unit (s := S8x128) ![0, 0] S8x128.size inb_S8x128_S8x128_0_0) (BX m c)
    (View.stores_vmem_bits_univ h_S8x128 rfl) (.inl rfl) (S := Finset.univ) (f := f) (Finset.subset_univ _)
  rw [show (bM.access (Rect.unit (s := S8x128) ![0, 0] S8x128.size inb_S8x128_S8x128_0_0)).write (Elt F) f (BX m c) Finset.univ = BX m c from
    Memref.write_access_unit_zero_univ (Elt F) cc0_scratch3 hz2 _ f _] at hs
  refine Tr.bindEqF (tr_loadO c _) ?_
  refine Tr.pre (P' := iprop((lB c ↦{fullShare} f) ∗ lO c ↦{fullShare} out m c 31)) ?_ (by iintro ⟨H1, H2⟩; iframe)
  refine Tr.bindEqF h' ?_
  refine Tr.bind (Tr.frame _ hs) fun _ => ?_
  exact (Tr.pure (a := AM m c) (R := fun a => iprop(⌜a = AM m c⌝ ∗ (lO c ↦{fullShare} out m c 31) ∗ lB c ↦{fullShare} BX m c))).pre (by
    iintro ⟨H1, H2⟩
    isplitr; · ipureintro; rfl
    isplitl [H2]; · iexact H2
    iexact H1)

theorem t_quant (c : Dev nD) (f : Vec F S32x8x128 .f32) (hf : ∀ y, (⟨(y 0).val, (y 0).isLt⟩ : Dev nD) ≠ c → f y = AA m y) :
    Tr m K c (quantOp oM aM c (AM m c)) iprop((lA c ↦{fullShare} f) ∗ lO c ↦{fullShare} out m c 31)
      (fun _ => iprop((lO c ↦{fullShare} outF m c) ∗ lA c ↦{fullShare} f)) := by
  have h := tr_load (m := m) (K := K) c aM (Rect.unit (s := S32x8x128) ![0, 0, 0] S32x8x128.size inb_S32x8x128_S32x8x128_0_0_0).toLoadRect
    (View.loadsAt_vmem h_S32x8x128) (S := Finset.univ) (q := fullShare) (f := f) (Finset.subset_univ _)
  rw [show aM.view.readAt (Elt F) (Rect.unit (s := S32x8x128) ![0, 0, 0] S32x8x128.size inb_S32x8x128_S32x8x128_0_0_0).toLoadRect f = f from
    Memref.readAt_unit_zero (Elt F) cc0_scratch4 hz3 _ _] at h
  refine Tr.bindEqF h ?_
  refine Tr.pre (P' := iprop((lO c ↦{fullShare} out m c 31) ∗ lA c ↦{fullShare} f)) ?_ (by iintro ⟨H1, H2⟩; iframe)
  refine Tr.bindEqF (tr_loadO c _) ?_
  refine Tr.bindEqF (tr_loadO c _) ?_
  have hq : outF m c = k0_pay43 (AM m c) (k0_pay42 (Scalar.remsi (Scalar.divsi (Dev.word c) 1#32) 32#32)) f (out m c 31) :=
    (pay43_congr c (AM m c) f (AA m) (out m c 31) hf).symm
  rw [hq]
  exact Tr.frame _ (tr_storeO c _ _)

end Recs

end Cert.K01
-- ==== Proof.Split.lean ====
/-
# Cutting the buffers up and putting them together

Each buffer is held whole at the entry and at the end, and in pieces, counted around the ring from a device, between.
-/
module

public import proofs.«01_k».proof.Proof.Phase

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

/-! ## Around the ring -/

theorem fwd_zero (c : Dev nD) : fwd c 0 = c := Fin.ext (by rw [fwd_val]; have := dev_lt c; omega)
theorem bwd_zero (c : Dev nD) : bwd c 0 = c := Fin.ext (by rw [bwd_val]; have := dev_lt c; omega)

theorem fwd_injOn (c : Dev nD) (a : ℕ) : Set.InjOn (fwd c) (Finset.Ico a 32 : Finset ℕ) := fun i hi j hj e => by
  have := congrArg Fin.val e
  rw [fwd_val, fwd_val] at this
  have := dev_lt c
  have := (Finset.mem_Ico.mp (Finset.mem_coe.mp hi)).2
  have := (Finset.mem_Ico.mp (Finset.mem_coe.mp hj)).2
  omega
theorem bwd_injOn (c : Dev nD) (a : ℕ) : Set.InjOn (bwd c) (Finset.Ico a 32 : Finset ℕ) := fun i hi j hj e => by
  have := congrArg Fin.val e
  rw [bwd_val, bwd_val] at this
  have := dev_lt c
  have := (Finset.mem_Ico.mp (Finset.mem_coe.mp hi)).2
  have := (Finset.mem_Ico.mp (Finset.mem_coe.mp hj)).2
  omega

theorem fwd_onto (c p : Dev nD) : ∃ k, k < 32 ∧ fwd c k = p :=
  ⟨(p.val + (32 - c.val)) % 32, Nat.mod_lt _ (by decide), Fin.ext (by rw [fwd_val]; have := dev_lt c; have := dev_lt p; omega)⟩
theorem bwd_onto (c p : Dev nD) : ∃ k, k < 32 ∧ bwd c k = p :=
  ⟨(c.val + (32 - p.val)) % 32, Nat.mod_lt _ (by decide), Fin.ext (by rw [bwd_val]; have := dev_lt c; have := dev_lt p; omega)⟩

theorem fwd_image (c : Dev nD) : (Finset.Ico 0 32).image (fwd c) = Finset.univ := Finset.eq_univ_of_forall fun p => by
  obtain ⟨k, hk, e⟩ := fwd_onto c p
  exact Finset.mem_image.mpr ⟨k, Finset.mem_Ico.mpr ⟨Nat.zero_le _, hk⟩, e⟩
theorem bwd_image (c : Dev nD) : (Finset.Ico 0 32).image (bwd c) = Finset.univ := Finset.eq_univ_of_forall fun p => by
  obtain ⟨k, hk, e⟩ := bwd_onto c p
  exact Finset.mem_image.mpr ⟨k, Finset.mem_Ico.mpr ⟨Nat.zero_le _, hk⟩, e⟩
theorem fwd_image_erase (c : Dev nD) : (Finset.Ico 1 32).image (fwd c) = Finset.univ.erase c := by
  ext p
  rw [Finset.mem_image, Finset.mem_erase]
  constructor
  · rintro ⟨k, hk, rfl⟩
    exact ⟨fwd_ne c (Finset.mem_Ico.mp hk).1 (Finset.mem_Ico.mp hk).2, Finset.mem_univ _⟩
  · rintro ⟨hp, -⟩
    obtain ⟨k, hk, e⟩ := fwd_onto c p
    refine ⟨k, Finset.mem_Ico.mpr ⟨Nat.one_le_iff_ne_zero.mpr fun h => hp ?_, hk⟩, e⟩
    rw [← e, h, fwd_zero]

theorem sep_fwd (c : Dev nD) (Φ : Dev nD → sProp 𝕄) : bigSep Finset.univ Φ = bigSep (Finset.Ico 0 32) fun k => Φ (fwd c k) := by
  rw [← fwd_image c]
  exact bigSep_image_of_injOn (fwd_injOn c 0) Φ
theorem sep_bwd (c : Dev nD) (Φ : Dev nD → sProp 𝕄) : bigSep Finset.univ Φ = bigSep (Finset.Ico 0 32) fun k => Φ (bwd c k) := by
  rw [← bwd_image c]
  exact bigSep_image_of_injOn (bwd_injOn c 0) Φ
theorem sep_fwd_erase (c : Dev nD) (Φ : Dev nD → sProp 𝕄) :
    bigSep (Finset.univ.erase c) Φ = bigSep (Finset.Ico 1 32) fun k => Φ (fwd c k) := by
  rw [← fwd_image_erase c]
  exact bigSep_image_of_injOn (fwd_injOn c 1) Φ
/-- The first of a family split off. -/
theorem sep_first (n : ℕ) (Ψ : ℕ → sProp 𝕄) : bigSep (Finset.Ico 0 (n + 1)) Ψ = iprop(Ψ 0 ∗ bigSep (Finset.Ico 1 (n + 1)) Ψ) :=
  bigSep_Ico_succ_bot (Nat.succ_pos n) Ψ
theorem sep_fwd' (c : Dev nD) (Φ : Dev nD → sProp 𝕄) : bigSep Finset.univ Φ = iprop(Φ c ∗ bigSep (Finset.Ico 1 32) fun k => Φ (fwd c k)) := by
  rw [sep_fwd c, sep_first 31, fwd_zero]
theorem sep_bwd' (c : Dev nD) (Φ : Dev nD → sProp 𝕄) : bigSep Finset.univ Φ = iprop(Φ c ∗ bigSep (Finset.Ico 1 32) fun k => Φ (bwd c k)) := by
  rw [sep_bwd c, sep_first 31, bwd_zero]

/-! ## Parts -/

section Part

variable {ℓ : Loc nD τ sig} {B : Type} [Fintype B] [DecidableEq B] (I : B → Finset (Idx ℓ)) (g : Idx ℓ → B)

theorem part_union (h : ∀ b y, y ∈ I b ↔ g y = b) : Finset.univ.biUnion I = Finset.univ :=
  Finset.eq_univ_of_forall fun y => Finset.mem_biUnion.mpr ⟨g y, Finset.mem_univ _, (h _ y).mpr rfl⟩
theorem part_disj (h : ∀ b y, y ∈ I b ↔ g y = b) : ∀ b ∈ (Finset.univ : Finset B), ∀ b' ∈ (Finset.univ : Finset B), b ≠ b' → Disjoint (I b) (I b') :=
  fun b _ b' _ hb => Finset.disjoint_left.mpr fun y hy hy' => hb (((h b y).mp hy).symm.trans ((h b' y).mp hy'))

theorem part_split (h : ∀ b y, y ∈ I b ↔ g y = b) (f : Buf (Elt F) ℓ) :
    (ℓ ↦{fullShare} f : sProp 𝕄) = bigSep Finset.univ fun b => ℓ ↦[I b]{fullShare} f := by
  rw [← pointsTo_biUnion Finset.univ I (part_disj I g h), part_union I g h]

theorem part_join (h : ∀ b y, y ∈ I b ↔ g y = b) (fs : B → Buf (Elt F) ℓ) :
    bigSep Finset.univ (fun b => ℓ ↦[I b]{fullShare} fs b) ⊢ (iprop(∃ f, ⌜∀ y, f y = fs (g y) y⌝ ∗ ℓ ↦{fullShare} f) : sProp 𝕄) := by
  refine (pointsTo_biUnion_join Finset.univ I fs (fun y => fs (g y) y) (part_disj I g h)).trans ?_
  rw [part_union I g h]
  iintro ⟨%f, %hf, H⟩
  iexists f
  isplitr
  · ipureintro; exact fun y => hf (g y) (Finset.mem_univ _) y ((h _ y).mpr rfl)
  iexact H

theorem part_join_ex (h : ∀ b y, y ∈ I b ↔ g y = b) (f₀ : Buf (Elt F) ℓ) :
    bigSep Finset.univ (fun b => iprop(∃ f, ℓ ↦[I b]{fullShare} f)) ⊢ (iprop(∃ f, ℓ ↦{fullShare} f) : sProp 𝕄) := by
  have : Nonempty (Buf (Elt F) ℓ) := ⟨f₀⟩
  refine (bigSep_exists_pi Finset.univ (fun b (f : Buf (Elt F) ℓ) => (ℓ ↦[I b]{fullShare} f : sProp 𝕄))).trans ?_
  iintro ⟨%fs, H⟩
  ihave H := part_join I g h fs $$ H
  icases H with ⟨%f, -, H⟩
  iexists f
  iexact H

end Part

/-! ## The buffers' parts -/

set_option backward.proofsInPublic true in
def gRow (y : S32x128x128.Idx) : Dev nD := ⟨(y 0).val, (y 0).isLt⟩
set_option backward.proofsInPublic true in
def gAm (y : S32x8x128.Idx) : Dev nD := ⟨(y 0).val, (y 0).isLt⟩
set_option backward.proofsInPublic true in
def gXs (y : S4096x128.Idx) : Dev nD := ⟨(y 0).val / 128, by have : (y 0).val < 4096 := (y 0).isLt; show _ < 32; omega⟩
set_option backward.proofsInPublic true in
def gWt (y : S4x128x8192.Idx) : Fin 4 × Fin 2 := (⟨(y 0).val, (y 0).isLt⟩, ⟨(y 1).val / 64, by have : (y 1).val < 128 := (y 1).isLt; omega⟩)
set_option backward.proofsInPublic true in
def gW (y : S4096x8192.Idx) : Dev nD × Fin 2 :=
  (⟨(y 0).val / 128, by have : (y 0).val < 4096 := (y 0).isLt; show _ < 32; omega⟩, ⟨(y 0).val / 64 % 2, Nat.mod_lt _ (by decide)⟩)

theorem mem_row (j : Dev nD) (y : S32x128x128.Idx) : y ∈ rowSet j ↔ gRow y = j := by
  rw [rowSet, Finset.mem_filter]
  exact ⟨fun h => Fin.ext h.2, fun h => ⟨Finset.mem_univ _, congrArg Fin.val h⟩⟩
theorem mem_am (j : Dev nD) (y : S32x8x128.Idx) : y ∈ amSet j ↔ gAm y = j := by
  rw [amSet, Finset.mem_filter]
  exact ⟨fun h => Fin.ext h.2, fun h => ⟨Finset.mem_univ _, congrArg Fin.val h⟩⟩
theorem mem_xs (j : Dev nD) (y : S4096x128.Idx) : y ∈ xsSet j ↔ gXs y = j := by
  rw [xsSet, Finset.mem_filter]
  exact ⟨fun h => Fin.ext h.2, fun h => ⟨Finset.mem_univ _, congrArg Fin.val h⟩⟩
theorem mem_wt (b : Fin 4 × Fin 2) (y : S4x128x8192.Idx) : y ∈ wtSet b.1 b.2 ↔ gWt y = b := by
  rw [wtSet, Finset.mem_filter]
  exact ⟨fun h => Prod.ext (Fin.ext h.2.1) (Fin.ext h.2.2),
    fun h => ⟨Finset.mem_univ _, congrArg (fun p : Fin 4 × Fin 2 => p.1.val) h, congrArg (fun p : Fin 4 × Fin 2 => p.2.val) h⟩⟩
theorem mem_w (b : Dev nD × Fin 2) (y : S4096x8192.Idx) : y ∈ wSet b.1 b.2 ↔ gW y = b := by
  rw [wSet, Finset.mem_filter]
  have h2 := b.2.isLt
  constructor
  · rintro ⟨-, h⟩
    exact Prod.ext (Fin.ext (by show (y 0).val / 128 = b.1.val; omega)) (Fin.ext (by show (y 0).val / 64 % 2 = b.2.val; omega))
  · intro h
    have e1 : (y 0).val / 128 = b.1.val := congrArg (fun p : Dev nD × Fin 2 => p.1.val) h
    have e2 : (y 0).val / 64 % 2 = b.2.val := congrArg (fun p : Dev nD × Fin 2 => p.2.val) h
    exact ⟨Finset.mem_univ _, by omega⟩

section Bufs

variable {m : (ℓ : Loc nD τ sig) → Buf (Elt F) ℓ}

theorem ex_one {β : Type} (Φ : β → sProp 𝕄) (f : β) : Φ f ⊢ iprop(∃ f, Φ f) := by
  iintro H
  iexists f
  iexact H

theorem ex_intro_sep (s : Finset ℕ) {β : Type} (Φ : ℕ → β → sProp 𝕄) (f : β) :
    bigSep s (fun k => Φ k f) ⊢ bigSep s (fun k => iprop(∃ f, Φ k f)) :=
  bigSep_mono fun k _ => ex_one (Φ k) f

theorem rows_split (c : Dev nD) (f : Vec F S32x128x128 .bf16) :
    (lR c ↦{fullShare} f : sProp 𝕄) ⊢ iprop((∃ f, rowPts c c f) ∗ bigSep (Finset.Ico 1 32) fun k => iprop(∃ f, rowPts c (fwd c k) f)) := by
  rw [part_split (ℓ := lR c) rowSet gRow mem_row, sep_fwd' c]
  exact BI.sep_mono (ex_one (fun f => rowPts c c f) f) (ex_intro_sep _ (fun k f => rowPts c (fwd c k) f) f)

theorem ams_split (c : Dev nD) (f : Vec F S32x8x128 .f32) :
    (lA c ↦{fullShare} f : sProp 𝕄) ⊢ iprop((∃ f, amPts c c f) ∗ bigSep (Finset.Ico 1 32) fun k => iprop(∃ f, amPts c (fwd c k) f)) := by
  rw [part_split (ℓ := lA c) amSet gAm mem_am, sep_fwd' c]
  exact BI.sep_mono (ex_one (fun f => amPts c c f) f) (ex_intro_sep _ (fun k f => amPts c (fwd c k) f) f)

theorem xs_split (c : Dev nD) (f : Vec F S4096x128 .bf16) :
    (lS c ↦{fullShare} f : sProp 𝕄) = iprop(xsPts c c f ∗ bigSep (Finset.Ico 1 32) fun k => xsPts c (fwd c k) f) := by
  rw [part_split (ℓ := lS c) xsSet gXs mem_xs, sep_fwd' c]
  rfl

theorem w_split (c : Dev nD) (f : Vec F S4096x8192 .f32) :
    (lW c ↦{fullShare} f : sProp 𝕄) = bigSep (Finset.Ico 0 32) fun k => iprop(wPts c (bwd c k) 0 f ∗ wPts c (bwd c k) 1 f) := by
  rw [part_split (ℓ := lW c) (fun b : Dev nD × Fin 2 => wSet b.1 b.2) gW mem_w, bigSep_univ_prod, sep_bwd c]
  exact bigSep_congr fun k _ => bigSep_fin_two _

theorem rows_join (c : Dev nD) (f : Vec F S32x128x128 .bf16) :
    iprop((∃ f, rowPts c c f) ∗ bigSep (Finset.Ico 1 32) fun k => rowPts c (bwd c k) f) ⊢ (iprop(∃ f, lR c ↦{fullShare} f) : sProp 𝕄) := by
  refine (sep_mono_right (ex_intro_sep _ (fun k f => rowPts c (bwd c k) f) f)).trans ?_
  rw [← sep_bwd' c (fun j => iprop(∃ f, rowPts c j f))]
  exact part_join_ex (ℓ := lR c) rowSet gRow mem_row f

theorem ams_join (c : Dev nD) (f : Vec F S32x8x128 .f32) :
    iprop((∃ f, amPts c c f) ∗ bigSep (Finset.Ico 1 32) fun k => amPts c (fwd c k) f)
      ⊢ (iprop(∃ f', ⌜∀ y, (⟨(y 0).val, (y 0).isLt⟩ : Dev nD) ≠ c → f' y = f y⌝ ∗ lA c ↦{fullShare} f') : sProp 𝕄) := by
  iintro ⟨⟨%f₀, H⟩, H'⟩
  have h : iprop(amPts c c f₀ ∗ bigSep (Finset.Ico 1 32) fun k => amPts c (fwd c k) f)
      ⊢ (bigSep Finset.univ fun j => lA c ↦[amSet j]{fullShare} (if j = c then f₀ else f : Vec F S32x8x128 .f32) : sProp 𝕄) := by
    rw [sep_fwd' c, if_pos rfl]
    refine sep_mono_right (Entails.of_eq (bigSep_congr fun k hk => ?_))
    rw [if_neg (fwd_ne c (Finset.mem_Ico.mp hk).1 (Finset.mem_Ico.mp hk).2)]
    rfl
  ihave H := h $$ [H H']; · iframe
  ihave H := part_join (ℓ := lA c) amSet gAm mem_am (fun j => if j = c then f₀ else f) $$ H
  icases H with ⟨%g, %hg, H⟩
  iexists g
  isplitr
  · ipureintro
    intro y hy
    rw [hg y]
    exact congrFun (if_neg hy) y
  iexact H

/-- The slots. -/
theorem wt_split (c : Dev nD) (f : Vec F S4x128x8192 .f32) :
    (lT c ↦{fullShare} f : sProp 𝕄) ⊢ bigSep (Finset.univ : Finset (Fin 4)) fun s => iprop((∃ f, wtPts c s 0 f) ∗ ∃ f, wtPts c s 1 f) := by
  rw [part_split (ℓ := lT c) (fun b : Fin 4 × Fin 2 => wtSet b.1 b.2) gWt mem_wt, bigSep_univ_prod]
  refine bigSep_mono fun s _ => ?_
  rw [bigSep_fin_two]
  exact BI.sep_mono (ex_one (fun f => wtPts c s 0 f) f) (ex_one (fun f => wtPts c s 1 f) f)

theorem wt_join (c : Dev nD) (f : Vec F S4x128x8192 .f32) :
    (bigSep (Finset.univ : Finset (Fin 4)) fun s => iprop((∃ f, wtPts c s 0 f) ∗ ∃ f, wtPts c s 1 f)) ⊢ (iprop(∃ f, lT c ↦{fullShare} f) : sProp 𝕄) := by
  have h := part_join_ex (F := F) (ℓ := lT c) (fun b : Fin 4 × Fin 2 => wtSet b.1 b.2) gWt mem_wt f
  rw [bigSep_univ_prod] at h
  refine BI.Entails.trans (bigSep_mono fun s _ => ?_) h
  rw [bigSep_fin_two]
  exact BI.Entails.refl _

end Bufs

end Cert.K01
-- ==== Proof.Places.lean ====
/-
# The positions of a device's semaphores

The family of all a device's positions, taken apart into the families the phases work on.
-/
module

public import proofs.«01_k».proof.Proof.Split

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

theorem sep_option {β : Type} [Fintype β] [DecidableEq β] (Φ : Option β → sProp 𝕄) :
    bigSep Finset.univ Φ = iprop(Φ none ∗ bigSep Finset.univ fun b => Φ (some b)) := by
  rw [show (Finset.univ : Finset (Option β)) = insert none (Finset.univ.map Function.Embedding.some) from by
    ext x; cases x <;> simp, bigSep_insert (by simp), bigSep_map]
  rfl

theorem sep_four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide, bigSep_insert (by decide),
    bigSep_insert (by decide), bigSep_insert (by decide), bigSep_singleton]
  rfl

theorem sep_left (A B C : sProp 𝕄) : iprop((A ∗ B) ∗ C) = iprop(A ∗ B ∗ C) := by
  refine BI.equiv_iff.mp ⟨?_, ?_⟩
  · show iprop((A ∗ B) ∗ C) ⊢ iprop(A ∗ B ∗ C)
    iintro ⟨⟨H1, H2⟩, H3⟩; iframe
  · show iprop(A ∗ B ∗ C) ⊢ iprop((A ∗ B) ∗ C)
    iintro ⟨H1, H2, H3⟩; iframe

theorem sep_flat (A B C D E G : sProp 𝕄) : iprop(A ∗ (B ∗ C ∗ D ∗ E) ∗ G) = iprop(A ∗ B ∗ C ∗ D ∗ E ∗ G) := by
  rw [sep_left, sep_left, sep_left]

theorem fwd0 (k : ℕ) : fwd (0 : Dev nD) k = (⟨k % 32, Nat.mod_lt _ (by decide)⟩ : Fin 32) :=
  Fin.ext (by rw [fwd_val]; show (0 + k) % 32 = k % 32; omega)

theorem sep_num (Φ : Fin 32 → sProp 𝕄) :
    bigSep Finset.univ Φ = iprop(Φ 0 ∗ bigSep (Finset.Ico 1 32) fun k => Φ ⟨k % 32, Nat.mod_lt _ (by decide)⟩) := by
  refine (sep_fwd' (0 : Dev nD) Φ).trans ?_
  rw [bigSep_congr (s := Finset.Ico 1 32) (Ψ := fun k => Φ ⟨k % 32, Nat.mod_lt _ (by decide)⟩) fun k _ => by rw [fwd0]]

/-- Device `c`'s semaphores, each at its position. -/
def Pos (c : Dev nD) (a : Ck → ℕ) : sProp 𝕄 := bigSep Finset.univ fun k : Ck => atPos ER (cell c k) (a k) ∅ 0

/-- The round after a semaphore's last. -/
def endK (c : Dev nD) : Ck → ℕ
  | none => 1
  | some (.inl (0, i)) => if i.val = 0 then 0 else 1
  | some (.inl (1, i)) => if i = c then 0 else 1
  | some (.inl (2, i)) => if i.val = 0 then 0 else 1
  | some (.inl (3, i)) => if i = c then 0 else 1
  | some (.inr _) => 8

theorem endK_duties (c : Dev nD) (k : Ck) (r : ℕ) (h : endK c k ≤ r) : dutiesK c k r = ∅ := by
  rcases k with _ | ⟨a, i⟩ | ⟨s, h'⟩
  · obtain ⟨r, rfl⟩ := Nat.exists_eq_succ_of_ne_zero (Nat.one_le_iff_ne_zero.mp h)
    rfl
  · rcases r with _ | r
    · fin_cases a
      · show (if i.val = 0 then ∅ else {0}) = (∅ : Finset (Dev nD))
        exact if_pos (by by_contra hn; exact absurd (show (if i.val = 0 then 0 else 1) ≤ 0 from h) (by rw [if_neg hn]; decide))
      · show (if i = c then ∅ else {0}) = (∅ : Finset (Dev nD))
        exact if_pos (by by_contra hn; exact absurd (show (if i = c then 0 else 1) ≤ 0 from h) (by rw [if_neg hn]; decide))
      · show (if i.val = 0 then ∅ else {0}) = (∅ : Finset (Dev nD))
        exact if_pos (by by_contra hn; exact absurd (show (if i.val = 0 then 0 else 1) ≤ 0 from h) (by rw [if_neg hn]; decide))
      · show (if i = c then ∅ else {0}) = (∅ : Finset (Dev nD))
        exact if_pos (by by_contra hn; exact absurd (show (if i = c then 0 else 1) ≤ 0 from h) (by rw [if_neg hn]; decide))
    · fin_cases a <;> rfl
  · exact if_neg (Nat.not_lt.mpr h)

/-- A device's semaphores by what they serve: the idle four, the barrier, the four families, the slots' halves. -/
def PosParts (c : Dev nD) (a : Ck → ℕ) : sProp 𝕄 :=
  iprop(atPos ER (cell c kBar) (a kBar) ∅ 0
    ∗ (atPos ER (cell c (kSend 0)) (a (kSend 0)) ∅ 0 ∗ bigSep (Finset.Ico 1 32) fun k => atPos ER (cell c (kSend k)) (a (kSend k)) ∅ 0)
    ∗ (atPos ER (cell c (kRecv c)) (a (kRecv c)) ∅ 0
        ∗ bigSep (Finset.Ico 1 32) fun k => atPos ER (cell c (kRecv (bwd c k))) (a (kRecv (bwd c k))) ∅ 0)
    ∗ (atPos ER (cell c (kAgs 0)) (a (kAgs 0)) ∅ 0 ∗ bigSep (Finset.Ico 1 32) fun k => atPos ER (cell c (kAgs k)) (a (kAgs k)) ∅ 0)
    ∗ (atPos ER (cell c (kAgr c)) (a (kAgr c)) ∅ 0
        ∗ bigSep (Finset.Ico 1 32) fun k => atPos ER (cell c (kAgr (fwd c k))) (a (kAgr (fwd c k))) ∅ 0)
    ∗ bigSep (Finset.univ : Finset (Fin 4)) fun s =>
        iprop(atPos ER (cell c (some (.inr (s, 0)))) (a (some (.inr (s, 0)))) ∅ 0 ∗ atPos ER (cell c (some (.inr (s, 1)))) (a (some (.inr (s, 1)))) ∅ 0))

theorem pos_parts (c : Dev nD) (a : Ck → ℕ) : Pos (F := F) c a = PosParts c a := by
  unfold Pos PosParts
  rw [sep_option, bigSep_univ_sum, bigSep_univ_prod, bigSep_univ_prod, sep_four (fun i : Fin 4 => bigSep Finset.univ fun j : Fin 32 => _),
    sep_num, sep_bwd' c (fun j => atPos ER (cell c (some (.inl (1, j)))) (a (some (.inl (1, j)))) ∅ 0), sep_num,
    sep_fwd' c (fun j => atPos ER (cell c (some (.inl (3, j)))) (a (some (.inl (3, j)))) ∅ 0)]
  rw [bigSep_congr (s := (Finset.univ : Finset (Fin 4))) fun s _ => bigSep_fin_two _]
  exact sep_flat _ _ _ _ _ _

end Cert.K01
-- ==== Proof.Body.lean ====
/-
# The body

The phases in the body's order: the entry and the sends, the products around the ring, the exchange of the maxima and
the quantiser, the departures waited for.
-/
module

public import proofs.«01_k».proof.Proof.Places

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

section Recs

variable {m : (ℓ : Loc nD τ sig) → Buf (Elt F) ℓ} {K : Dev nD × Ck → ℕ}

/-- One operation of a longer program, what it does not touch kept aside. -/
theorem Tr.step {c : Dev nD} {α β : Type} {p : PG F α} {f : α → PG F β} {P P' X : sProp 𝕄} {R : α → sProp 𝕄} {S : β → sProp 𝕄}
    (h : Tr m K c p P' R) (hP : P ⊢ iprop(P' ∗ X)) (h' : ∀ v, Tr m K c (f v) iprop(R v ∗ X) S) : Tr m K c (p >>= f) P S :=
  Tr.bind ((Tr.frame X h).pre hP) h'

/-! ## The entry -/

def TokB (c : Dev nD) : sProp 𝕄 := bigSep (Finset.Ico 1 32) fun k => dutyTok ER (cell (fwd c k) kBar) 0 c
def TokX (c : Dev nD) : sProp 𝕄 := bigSep (Finset.Ico 1 32) fun k => iprop(dutyTok ER (cell c (kSend k)) 0 0 ∗ dutyTok ER (cell (fwd c k) (kRecv c)) 0 0)
def TokA (c : Dev nD) : sProp 𝕄 := bigSep (Finset.Ico 1 32) fun k => iprop(dutyTok ER (cell c (kAgs k)) 0 0 ∗ dutyTok ER (cell (fwd c k) (kAgr c)) 0 0)
def TokW (c : Dev nD) : sProp 𝕄 := bigSep (Finset.Ico 0 32) fun k => iprop(dutyTok ER (cell c (kW k 0)) (k / 4) 0 ∗ dutyTok ER (cell c (kW k 1)) (k / 4) 0)
/-- The places of a device's maximum on its peers. -/
def Landing (c : Dev nD) : sProp 𝕄 := bigSep (Finset.Ico 1 32) fun k => iprop(∃ f, amPts (fwd c k) c f)

theorem asig_eq (c : Dev nD) : bigSep (Finset.Ico 1 32) (ASig (F := F) c)
    = iprop(TokB c ∗ (bigSep (Finset.Ico 1 32) fun k => iprop(∃ f, rowPts c (fwd c k) f)) ∗ bigSep (Finset.Ico 1 32) fun k => iprop(∃ f, amPts c (fwd c k) f)) := by
  unfold TokB
  rw [← bigSep_sep', ← bigSep_sep']
  rfl

theorem bar_pay (c : Dev nD) : bigSep (Finset.univ.erase c) (fun p => payK m c kBar 0 p)
    = iprop((bigSep (Finset.Ico 1 32) fun k => iprop(∃ f, rowPts (fwd c k) c f)) ∗ Landing c) := by
  unfold Landing
  rw [sep_fwd_erase, ← bigSep_sep']
  rfl

theorem asend_eq (c : Dev nD) : bigSep (Finset.Ico 1 32) (ASend m c)
    = iprop((bigSep (Finset.Ico 1 32) fun k => xsPts c (fwd c k) (XS m c)) ∗ (bigSep (Finset.Ico 1 32) fun k => iprop(∃ f, rowPts (fwd c k) c f)) ∗ TokX c) := by
  unfold TokX
  rw [← bigSep_sep', ← bigSep_sep']
  rfl

theorem p_entry (c : Dev nD) (fs : Vec F S4096x128 .bf16) (Y : sProp 𝕄) {β : Type} {rest : PG F β} {S : β → sProp 𝕄}
    (h : Tr m K c rest iprop(bigSep (Finset.Ico 1 32) (BSend c) ∗ Landing c ∗ xsPts c c (XS m c) ∗ (lX c ↦{fullShare} X m c)
      ∗ atPos ER (cell c kBar) 1 ∅ 0 ∗ ow c (OA c 1) ∗ Y) S) :
    Tr m K c (do
        each 31 (fun i => sigOp c i)
        semWaitWord barS 31#32
        castOp xM sM hsM
        each 31 (fun i => sendOp sM hsM rM hrM cc0_scratch5 cc0_scratch6 c i)
        rest)
      iprop(bigSep (Finset.Ico 1 32) (ASig c) ∗ ow c (O₀ c) ∗ (cred (tallyAt (cell c kBar) () 31) ∗ atPos ER (cell c kBar) 0 ∅ 0)
        ∗ (lX c ↦{fullShare} X m c) ∗ (lS c ↦{fullShare} fs) ∗ TokX c ∗ Y) S := by
  refine Tr.step (Tr.eachSep 1 31 _ (ASig c) (fun _ => iprop(emp)) (fun i => ow c (OB c (1 + i) + (OR c 1 + OA c 1))) fun i => t_sig m c i _)
    (X := iprop((cred (tallyAt (cell c kBar) () 31) ∗ atPos ER (cell c kBar) 0 ∅ 0)
        ∗ (lX c ↦{fullShare} X m c) ∗ (lS c ↦{fullShare} fs) ∗ TokX c ∗ Y)) ?_ fun _ => ?_
  · unfold O₀
    iintro ⟨H1, H2, H3, H4, H5, H6, H7⟩
    iframe
  rw [show OB c (1 + 31) = 0 from OB_end c, zero_add]
  refine Tr.step (tr_barrier c (OR c 1 + OA c 1) (Above.add (above_OR c 1) ((above_OA c 1).mono (by decide))))
    (X := iprop((lX c ↦{fullShare} X m c) ∗ (lS c ↦{fullShare} fs) ∗ TokX c ∗ Y)) ?_ fun _ => ?_
  · iintro ⟨⟨-, H2⟩, ⟨H3, H3'⟩, H4, H5, H6, H7⟩
    iframe
  refine Tr.step (t_cast c fs)
    (X := iprop(bigSep (Finset.univ.erase c) (fun p => payK m c kBar 0 p) ∗ atPos ER (cell c kBar) 1 ∅ 0 ∗ ow c (OR c 1 + OA c 1) ∗ TokX c ∗ Y)) ?_ fun _ => ?_
  · iintro ⟨⟨H1, H2, H3⟩, H4, H5, H6, H7⟩
    iframe
  refine Tr.step (Tr.eachSep 1 31 _ (ASend m c) (BSend c) (fun i => ow c (OR c (1 + i) + OA c 1)) fun i => t_send m c i _)
    (X := iprop(Landing c ∗ xsPts c c (XS m c) ∗ (lX c ↦{fullShare} X m c) ∗ atPos ER (cell c kBar) 1 ∅ 0 ∗ Y)) ?_ fun _ => ?_
  · rw [xs_split, bar_pay, show Finset.Ico 1 (1 + 31) = Finset.Ico 1 32 from rfl, asend_eq]
    iintro ⟨⟨⟨H1, H1'⟩, H2⟩, ⟨H3, H3'⟩, H4, H5, H6, H7⟩
    iframe
  rw [show OR c (1 + 31) = 0 from OR_end c, zero_add]
  refine h.pre ?_
  iintro ⟨⟨H1, H2⟩, H3, H4, H5, H6, H7⟩
  iframe

/-! ## The products -/

/-- A family over the steps cut where the loops are. -/
theorem sep_cut (a b n : ℕ) (ha : a ≤ b) (hb : b ≤ n) (Φ : ℕ → sProp 𝕄) :
    bigSep (Finset.Ico a n) Φ = iprop(bigSep (Finset.Ico a b) Φ ∗ bigSep (Finset.Ico b n) Φ) := by
  rw [← Finset.Ico_union_Ico_eq_Ico ha hb]
  exact bigSep_union (Finset.Ico_disjoint_Ico_consecutive a b n)

theorem sep_nil (A : sProp 𝕄) : iprop(A ∗ emp) = A := by
  refine BI.equiv_iff.mp ⟨?_, ?_⟩
  · show iprop(A ∗ emp) ⊢ A
    iintro ⟨H, -⟩; iexact H
  · show A ⊢ iprop(A ∗ emp)
    iintro H
    isplitl; · iexact H
    iempintro

theorem sep_three (Φ : ℕ → sProp 𝕄) : bigSep (Finset.Ico 29 32) Φ = iprop(Φ 29 ∗ Φ 30 ∗ Φ 31) := by
  rw [bigSep_Ico_succ_bot (show 29 < 32 by decide), bigSep_Ico_succ_bot (show 29 + 1 < 32 by decide), bigSep_Ico_succ_bot (show 29 + 1 + 1 < 32 by decide),
    Finset.Ico_self, bigSep_empty]
  exact congrArg (fun X => iprop(Φ 29 ∗ Φ 30 ∗ X)) (sep_nil _)

theorem fresh_cut (c : Dev nD) : bigSep (Finset.Ico 0 32) (Fresh2 m c)
    = iprop(Fresh2 m c 0 ∗ Fresh2 m c 1 ∗ Fresh2 m c 2 ∗ Fresh2 m c 3 ∗ bigSep (Finset.Ico 1 29) fun k => Fresh2 m c (k + 3)) := by
  rw [bigSep_Ico_succ_bot (show 0 < 32 by decide), bigSep_Ico_succ_bot (show 0 + 1 < 32 by decide), bigSep_Ico_succ_bot (show 0 + 1 + 1 < 32 by decide),
    bigSep_Ico_succ_bot (show 0 + 1 + 1 + 1 < 32 by decide), show Finset.Ico (0 + 1 + 1 + 1 + 1) 32 = (Finset.Ico 1 29).image (· + 3) by decide,
    bigSep_image_of_injOn (fun a _ b _ e => Nat.add_right_cancel e)]

theorem p_ring (c : Dev nD) (f : Vec F S128x8192 .f32) (Y : sProp 𝕄) {β : Type} {rest : PG F β} {S : β → sProp 𝕄}
    (h : Tr m K c rest iprop(bigSep (Finset.Ico 0 32) (Done m c) ∗ (Avail2 c 32 ∗ Avail2 c 33 ∗ Avail2 c 34 ∗ Avail2 c 35)
      ∗ bigSep (Finset.Ico 1 32) (BRecv m c) ∗ xsPts c c (XS m c) ∗ (lO c ↦{fullShare} out m c 31) ∗ ow c (OA c 1) ∗ Y) S) :
    Tr m K c (do
        fetches wM tM cc0_scratch7 c
        step0 wM oM sM tM cc0_scratch7 c
        each 28 (fun i => do
          fetch6 wM tM cc0_scratch7 c ⟨i.val + 1, by omega⟩
          stepOp wM oM rM hrM tM cc0_scratch6 cc0_scratch7 c ⟨i.val, by omega⟩)
        each 3 (fun i => stepOp wM oM rM hrM tM cc0_scratch6 cc0_scratch7 c ⟨28 + i.val, by omega⟩)
        rest)
      iprop(bigSep (Finset.Ico 0 32) (Fresh2 m c) ∗ (Avail2 c 0 ∗ Avail2 c 1 ∗ Avail2 c 2 ∗ Avail2 c 3)
        ∗ bigSep (Finset.Ico 1 32) (ARecv c) ∗ xsPts c c (XS m c) ∗ (lO c ↦{fullShare} f) ∗ ow c (OA c 1) ∗ Y) S := by
  have hO := above_OA c 1
  rw [fresh_cut, sep_cut 1 29 32 (by decide) (by decide) (ARecv c)]
  refine Tr.step (t_fetches c)
    (X := iprop((Fresh2 m c 3 ∗ Avail2 c 3) ∗ xsPts c c (XS m c) ∗ (lO c ↦{fullShare} f) ∗ ow c (OA c 1)
      ∗ (bigSep (Finset.Ico 1 29) fun k => Fresh2 m c (k + 3)) ∗ bigSep (Finset.Ico 1 29) (ARecv c) ∗ bigSep (Finset.Ico 29 32) (ARecv c) ∗ Y)) ?_ fun _ => ?_
  · iintro ⟨⟨H0, H1, H2, H3, H4⟩, ⟨G0, G1, G2, G3⟩, ⟨H5, H6⟩, H7, H8, H9, H10⟩
    iframe
  refine Tr.step (t_step0 c (OA c 1) hO f)
    (X := iprop((Fly2 c 1 ∗ Fly2 c 2) ∗ (bigSep (Finset.Ico 1 29) fun k => Fresh2 m c (k + 3)) ∗ bigSep (Finset.Ico 1 29) (ARecv c)
      ∗ bigSep (Finset.Ico 29 32) (ARecv c) ∗ Y)) ?_ fun _ => ?_
  · iintro ⟨⟨H0, H1, H2⟩, H3, H4, H5, H6, H7, H8, H9, H10⟩
    iframe
  refine Tr.step (t_ring_loop c (OA c 1) hO)
    (X := iprop(Done m c 0 ∗ xsPts c c (XS m c) ∗ bigSep (Finset.Ico 29 32) (ARecv c) ∗ Y)) ?_ fun _ => ?_
  · rw [bigSep_sep']
    unfold Ring
    iintro ⟨⟨H0, H1, H2, H3, H4, H5⟩, ⟨G1, G2⟩, H6, H7, H8, H9⟩
    iframe
  refine Tr.step (t_tail_loop c (OA c 1) hO)
    (X := iprop(Done m c 0 ∗ bigSep (Finset.Ico 1 29) (Done m c) ∗ bigSep (Finset.Ico 1 29) (BRecv m c) ∗ Avail2 c 32 ∗ xsPts c c (XS m c) ∗ Y)) ?_ fun _ => ?_
  · rw [bigSep_sep', bigSep_sep', sep_three (Fly2 c)]
    unfold Ring
    iintro ⟨⟨⟨H0, H1⟩, G1, G2, G3, G4, G5, G6⟩, H6, H7, H8, H9⟩
    iframe
  refine h.pre ?_
  rw [bigSep_sep', bigSep_sep', sep_three (fun k => Avail2 c (k + 4)), sep_cut 1 29 32 (by decide) (by decide) (BRecv m c),
    sep_first 31, sep_cut 1 29 32 (by decide) (by decide) (Done m c)]
  iintro ⟨⟨⟨⟨G1, G2, G3⟩, G4, G5⟩, H1, H2⟩, H3, H4, H5, H6, H7, H8⟩
  iframe

end Recs

end Cert.K01
-- ==== Proof.Whole.lean ====
/-
# The whole body

From a device's share of the launch to its result, every buffer whole again and every semaphore past its last round.
-/
module

public import proofs.«01_k».proof.Proof.Body

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

section Recs

variable {m : (ℓ : Loc nD τ sig) → Buf (Elt F) ℓ} {K : Dev nD × Ck → ℕ}

/-! ## The maxima -/

theorem Tr.fact {c : Dev nD} {α : Type} {p : PG F α} {φ : Prop} {P : sProp 𝕄} {R : α → sProp 𝕄}
    (h : φ → Tr m K c p P R) : Tr m K c p iprop(⌜φ⌝ ∗ P) R := fun Q => by
  iintro ⟨HC, ⟨%hφ, HP⟩, HQ⟩
  iapply (h hφ Q)
  iframe

theorem box_parts (c : Dev nD) (f : Vec F S8x128 .f32) : (lB c ↦{fullShare} f : sProp 𝕄)
    = iprop(boxPts c (shareDrop fullShare 32) f ∗ boxPts c (shareTokN fullShare 0) f
      ∗ bigSep (Finset.Ico 1 32) fun k => boxPts c (shareTokN fullShare k) f) := by
  have h := Transfers.pointsTo_toks_range (ℓ := lB c) (S := Finset.univ) (f := f) (Ix := Unit) (Name := ℕ) (U := UU) (Lvl := ℕ) fullShare 32
  refine (BI.equiv_iff.mp ⟨h.1, h.2⟩).trans ?_
  rw [Finset.range_eq_Ico, sep_first 31]
  rfl

theorem aags_eq (c : Dev nD) : bigSep (Finset.Ico 1 32) (AAgs m c)
    = iprop((bigSep (Finset.Ico 1 32) fun k => boxPts c (shareTokN fullShare k) (BX m c)) ∗ Landing c ∗ TokA c) := by
  unfold Landing TokA
  rw [← bigSep_sep', ← bigSep_sep']
  rfl

theorem bagr_eq (c : Dev nD) : bigSep (Finset.Ico 1 32) (BAgr m c)
    = iprop((bigSep (Finset.Ico 1 32) fun k => amPts c (fwd c k) (AA m)) ∗ bigSep (Finset.Ico 1 32) fun k => atPos ER (cell c (kAgr (fwd c k))) 1 ∅ 0) := by
  rw [← bigSep_sep']
  rfl

theorem p_max (c : Dev nD) (fb : Vec F S8x128 .f32) (Y : sProp 𝕄) {β : Type} {rest : PG F β} {S : β → sProp 𝕄}
    (h : Tr m K c rest iprop((lO c ↦{fullShare} outF m c) ∗ (∃ f, lA c ↦{fullShare} f)
      ∗ (boxPts c (shareDrop fullShare 32) (BX m c) ∗ boxPts c (shareTokN fullShare 0) (BX m c))
      ∗ bigSep (Finset.Ico 1 32) (BAgs c) ∗ (bigSep (Finset.Ico 1 32) fun k => atPos ER (cell c (kAgr (fwd c k))) 1 ∅ 0) ∗ ow c 0 ∗ Y) S) :
    Tr m K c (do
        let a ← boxOp oM bM
        each 31 (fun i => agOp bM hbM aM cc0_scratch8 cc0_scratch9 c i)
        each 31 (fun i => agWait bM hbM aM cc0_scratch9 c i)
        quantOp oM aM c a
        rest)
      iprop((lO c ↦{fullShare} out m c 31) ∗ (lB c ↦{fullShare} fb) ∗ Landing c ∗ TokA c ∗ bigSep (Finset.Ico 1 32) (AAgr c)
        ∗ (∃ f, amPts c c f) ∗ ow c (OA c 1) ∗ Y) S := by
  refine Tr.step (t_box c fb) (X := iprop(Landing c ∗ TokA c ∗ bigSep (Finset.Ico 1 32) (AAgr c) ∗ (∃ f, amPts c c f) ∗ ow c (OA c 1) ∗ Y)) ?_ fun a => ?_
  · iintro ⟨H1, H2, H3, H4, H5, H6, H7, H8⟩
    iframe
  rw [sep_left]
  refine Tr.fact fun ha => ?_
  rw [ha]
  refine Tr.step (Tr.eachSep 1 31 _ (AAgs m c) (BAgs c) (fun i => ow c (OA c (1 + i))) fun i => t_ags m c i)
    (X := iprop((lO c ↦{fullShare} out m c 31) ∗ (boxPts c (shareDrop fullShare 32) (BX m c) ∗ boxPts c (shareTokN fullShare 0) (BX m c))
      ∗ bigSep (Finset.Ico 1 32) (AAgr c) ∗ (∃ f, amPts c c f) ∗ Y)) ?_ fun _ => ?_
  · rw [show Finset.Ico 1 (1 + 31) = Finset.Ico 1 32 from rfl, aags_eq, box_parts]
    iintro ⟨⟨H1, H2, H2', H2''⟩, H3, H4, H5, H6, H7, H8⟩
    iframe
  rw [show OA c (1 + 31) = 0 from OA_end c]
  refine Tr.step (Tr.eachSep 1 31 _ (AAgr c) (BAgr m c) (fun i => ow c 0) fun i => t_agr m c i)
    (X := iprop((lO c ↦{fullShare} out m c 31) ∗ (boxPts c (shareDrop fullShare 32) (BX m c) ∗ boxPts c (shareTokN fullShare 0) (BX m c))
      ∗ bigSep (Finset.Ico 1 32) (BAgs c) ∗ (∃ f, amPts c c f) ∗ Y)) ?_ fun _ => ?_
  · iintro ⟨⟨H1, H2⟩, H3, H4, H5, H6, H7⟩
    iframe
  refine Tr.pre (P' := iprop(∃ f, ⌜∀ y, (⟨(y 0).val, (y 0).isLt⟩ : Dev nD) ≠ c → f y = AA m y⌝ ∗ (lA c ↦{fullShare} f) ∗ (lO c ↦{fullShare} out m c 31)
      ∗ (boxPts c (shareDrop fullShare 32) (BX m c) ∗ boxPts c (shareTokN fullShare 0) (BX m c))
      ∗ bigSep (Finset.Ico 1 32) (BAgs c) ∗ (bigSep (Finset.Ico 1 32) fun k => atPos ER (cell c (kAgr (fwd c k))) 1 ∅ 0) ∗ ow c 0 ∗ Y)) ?_ ?_
  swap
  · rw [show Finset.Ico 1 (1 + 31) = Finset.Ico 1 32 from rfl, bagr_eq]
    iintro ⟨⟨⟨H1, H1'⟩, H2⟩, H3, H4, H5, H6, H7⟩
    ihave H := ams_join c (AA m) $$ [H1 H6]
    · isplitl [H6]; · iexact H6
      iexact H1
    icases H with ⟨%f, %hf, H⟩
    iexists f
    isplitr; · ipureintro; exact hf
    iframe
  refine Tr.exists fun f => Tr.fact fun hf => ?_
  refine Tr.step (t_quant c f hf) (X := iprop((boxPts c (shareDrop fullShare 32) (BX m c) ∗ boxPts c (shareTokN fullShare 0) (BX m c))
      ∗ bigSep (Finset.Ico 1 32) (BAgs c) ∗ (bigSep (Finset.Ico 1 32) fun k => atPos ER (cell c (kAgr (fwd c k))) 1 ∅ 0) ∗ ow c 0 ∗ Y)) ?_ fun _ => ?_
  · iintro ⟨H1, H2, H3, H4, H5, H6, H7⟩
    iframe
  refine h.pre ?_
  iintro ⟨⟨H1, H2⟩, H3, H4, H5, H6, H7⟩
  isplitl [H1]; · iexact H1
  isplitl [H2]; · iexists f; iexact H2
  iframe

/-! ## The departures -/

theorem asendw_eq (c : Dev nD) : bigSep (Finset.Ico 1 32) (ASendW (F := F) c)
    = iprop(bigSep (Finset.Ico 1 32) (BSend c) ∗ bigSep (Finset.Ico 1 32) fun k => atPos ER (cell c (kSend k)) 0 ∅ 0) := by
  rw [← bigSep_sep']; rfl
theorem aagsw_eq (c : Dev nD) : bigSep (Finset.Ico 1 32) (AAgsW (F := F) c)
    = iprop(bigSep (Finset.Ico 1 32) (BAgs c) ∗ bigSep (Finset.Ico 1 32) fun k => atPos ER (cell c (kAgs k)) 0 ∅ 0) := by
  rw [← bigSep_sep']; rfl
theorem bsendw_eq (c : Dev nD) : bigSep (Finset.Ico 1 32) (BSendW m c)
    = iprop((bigSep (Finset.Ico 1 32) fun k => xsPts c (fwd c k) (XS m c)) ∗ bigSep (Finset.Ico 1 32) fun k => atPos ER (cell c (kSend k)) 1 ∅ 0) := by
  rw [← bigSep_sep']; rfl
theorem bagsw_eq (c : Dev nD) : bigSep (Finset.Ico 1 32) (BAgsW m c)
    = iprop((bigSep (Finset.Ico 1 32) fun k => boxPts c (shareTokN fullShare k) (BX m c)) ∗ bigSep (Finset.Ico 1 32) fun k => atPos ER (cell c (kAgs k)) 1 ∅ 0) := by
  rw [← bigSep_sep']; rfl

theorem p_exit (c : Dev nD) :
    Tr m K c (do
        each 31 (fun i => sendWait sM hsM rM hrM cc0_scratch5 c i)
        each 31 (fun i => agSendWait bM hbM aM cc0_scratch8 c i))
      iprop(bigSep (Finset.Ico 1 32) (ASendW c) ∗ bigSep (Finset.Ico 1 32) (AAgsW c) ∗ ow c 0)
      (fun _ => iprop(bigSep (Finset.Ico 1 32) (BSendW m c) ∗ bigSep (Finset.Ico 1 32) (BAgsW m c) ∗ ow c 0)) := by
  refine Tr.step (Tr.eachSep 1 31 _ (ASendW c) (BSendW m c) (fun i => ow c 0) fun i => t_sendWait m c i)
    (X := bigSep (Finset.Ico 1 32) (AAgsW c)) ?_ fun _ => ?_
  · iintro ⟨H1, H2, H3⟩
    iframe
  refine ((Tr.frame (bigSep (Finset.Ico 1 32) (BSendW m c))
    (Tr.eachSep 1 31 _ (AAgsW c) (BAgsW m c) (fun i => ow c 0) fun i => t_agsWait (m := m) (K := K) c i)).pre ?_).post fun _ => ?_
  · iintro ⟨⟨H1, H2⟩, H3⟩
    iframe
  · iintro ⟨⟨H1, H2⟩, H3⟩
    iframe

/-! ## The slots at the ends -/

abbrev Slots (c : Dev nD) : sProp 𝕄 := bigSep (Finset.univ : Finset (Fin 4)) fun s => iprop((∃ f, wtPts c s 0 f) ∗ ∃ f, wtPts c s 1 f)
abbrev SlotPos (c : Dev nD) (r : ℕ) : sProp 𝕄 :=
  bigSep (Finset.univ : Finset (Fin 4)) fun s => iprop(atPos ER (cell c (some (.inr (s, 0)))) r ∅ 0 ∗ atPos ER (cell c (some (.inr (s, 1)))) r ∅ 0)

theorem avail_start (c : Dev nD) (k : ℕ) (hk : k < 4) :
    iprop(Ctx m K ∗ ((∃ f, wtPts c (slotOf k) 0 f) ∗ ∃ f, wtPts c (slotOf k) 1 f) ∗ (atPos ER (cell c (kW k 0)) 0 ∅ 0 ∗ atPos ER (cell c (kW k 1)) 0 ∅ 0))
      ⊢ Avail2 c k := by
  unfold Avail2 Avail
  rw [show k / 4 = 0 by omega]
  iintro ⟨#HC, ⟨H1, H2⟩, H3, H4⟩
  isplitl [H1 H3]
  · isplitl [H1]; · iexact H1
    isplitr; · iapply (ctx_reached m K c (kW k 0)); iexact HC
    iexact H3
  · isplitl [H2]; · iexact H2
    isplitr; · iapply (ctx_reached m K c (kW k 1)); iexact HC
    iexact H4

theorem avail_all (c : Dev nD) : iprop(Ctx m K ∗ Slots c ∗ SlotPos c 0) ⊢ iprop(Avail2 c 0 ∗ Avail2 c 1 ∗ Avail2 c 2 ∗ Avail2 c 3) := by
  unfold Slots SlotPos
  rw [sep_four, sep_four]
  iintro ⟨#HC, ⟨H0, H1, H2, H3⟩, G0, G1, G2, G3⟩
  isplitl [H0 G0]
  · iapply (avail_start (m := m) (K := K) c 0 (by decide))
    isplitr; · iexact HC
    isplitl [H0]; · iexact H0
    iexact G0
  isplitl [H1 G1]
  · iapply (avail_start (m := m) (K := K) c 1 (by decide))
    isplitr; · iexact HC
    isplitl [H1]; · iexact H1
    iexact G1
  isplitl [H2 G2]
  · iapply (avail_start (m := m) (K := K) c 2 (by decide))
    isplitr; · iexact HC
    isplitl [H2]; · iexact H2
    iexact G2
  · iapply (avail_start (m := m) (K := K) c 3 (by decide))
    isplitr; · iexact HC
    isplitl [H3]; · iexact H3
    iexact G3

theorem avail_end (c : Dev nD) (k : ℕ) (hk : k / 4 = 8) :
    Avail2 c k ⊢ (iprop(((∃ f, wtPts c (slotOf k) 0 f) ∗ ∃ f, wtPts c (slotOf k) 1 f)
      ∗ (atPos ER (cell c (kW k 0)) 8 ∅ 0 ∗ atPos ER (cell c (kW k 1)) 8 ∅ 0)) : sProp 𝕄) := by
  unfold Avail2 Avail
  rw [hk]
  iintro ⟨⟨H1, -, H2⟩, H3, -, H4⟩
  iframe

theorem avail_join (c : Dev nD) : iprop(Avail2 c 32 ∗ Avail2 c 33 ∗ Avail2 c 34 ∗ Avail2 c 35) ⊢ (iprop(Slots c ∗ SlotPos c 8) : sProp 𝕄) := by
  unfold Slots SlotPos
  rw [sep_four, sep_four]
  iintro ⟨H0, H1, H2, H3⟩
  ihave H0 := avail_end c 32 (by decide) $$ H0
  ihave H1 := avail_end c 33 (by decide) $$ H1
  ihave H2 := avail_end c 34 (by decide) $$ H2
  ihave H3 := avail_end c 35 (by decide) $$ H3
  icases H0 with ⟨H0, G0⟩
  icases H1 with ⟨H1, G1⟩
  icases H2 with ⟨H2, G2⟩
  icases H3 with ⟨H3, G3⟩
  isplitl [H0 H1 H2 H3]
  · isplitl [H0]; · iexact H0
    isplitl [H1]; · iexact H1
    isplitl [H2]; · iexact H2
    iexact H3
  · isplitl [G0]; · iexact G0
    isplitl [G1]; · iexact G1
    isplitl [G2]; · iexact G2
    iexact G3

/-! ## The positions at the end -/

theorem end_send (c : Dev nD) {k : ℕ} (h : k ∈ Finset.Ico 1 32) : endK c (kSend k) = 1 :=
  if_neg (show ¬ k % 32 = 0 by have := Finset.mem_Ico.mp h; omega)
theorem end_ags (c : Dev nD) {k : ℕ} (h : k ∈ Finset.Ico 1 32) : endK c (kAgs k) = 1 :=
  if_neg (show ¬ k % 32 = 0 by have := Finset.mem_Ico.mp h; omega)
theorem end_recv (c : Dev nD) {k : ℕ} (h : k ∈ Finset.Ico 1 32) : endK c (kRecv (bwd c k)) = 1 :=
  if_neg (bwd_ne c (Finset.mem_Ico.mp h).1 (Finset.mem_Ico.mp h).2)
theorem end_agr (c : Dev nD) {k : ℕ} (h : k ∈ Finset.Ico 1 32) : endK c (kAgr (fwd c k)) = 1 :=
  if_neg (fwd_ne c (Finset.mem_Ico.mp h).1 (Finset.mem_Ico.mp h).2)

theorem pos_end (c : Dev nD) : PosParts (F := F) c (endK c)
    = iprop(atPos ER (cell c kBar) 1 ∅ 0
    ∗ (atPos ER (cell c (kSend 0)) 0 ∅ 0 ∗ bigSep (Finset.Ico 1 32) fun k => atPos ER (cell c (kSend k)) 1 ∅ 0)
    ∗ (atPos ER (cell c (kRecv c)) 0 ∅ 0 ∗ bigSep (Finset.Ico 1 32) fun k => atPos ER (cell c (kRecv (bwd c k))) 1 ∅ 0)
    ∗ (atPos ER (cell c (kAgs 0)) 0 ∅ 0 ∗ bigSep (Finset.Ico 1 32) fun k => atPos ER (cell c (kAgs k)) 1 ∅ 0)
    ∗ (atPos ER (cell c (kAgr c)) 0 ∅ 0 ∗ bigSep (Finset.Ico 1 32) fun k => atPos ER (cell c (kAgr (fwd c k))) 1 ∅ 0)
    ∗ SlotPos c 8) := by
  have e1 : (bigSep (Finset.Ico 1 32) fun k => (atPos ER (cell c (kSend k)) (endK c (kSend k)) ∅ 0 : sProp 𝕄))
      = bigSep (Finset.Ico 1 32) fun k => atPos ER (cell c (kSend k)) 1 ∅ 0 := bigSep_congr fun k h => by rw [end_send c h]
  have e2 : (bigSep (Finset.Ico 1 32) fun k => (atPos ER (cell c (kRecv (bwd c k))) (endK c (kRecv (bwd c k))) ∅ 0 : sProp 𝕄))
      = bigSep (Finset.Ico 1 32) fun k => atPos ER (cell c (kRecv (bwd c k))) 1 ∅ 0 := bigSep_congr fun k h => by rw [end_recv c h]
  have e3 : (bigSep (Finset.Ico 1 32) fun k => (atPos ER (cell c (kAgs k)) (endK c (kAgs k)) ∅ 0 : sProp 𝕄))
      = bigSep (Finset.Ico 1 32) fun k => atPos ER (cell c (kAgs k)) 1 ∅ 0 := bigSep_congr fun k h => by rw [end_ags c h]
  have e4 : (bigSep (Finset.Ico 1 32) fun k => (atPos ER (cell c (kAgr (fwd c k))) (endK c (kAgr (fwd c k))) ∅ 0 : sProp 𝕄))
      = bigSep (Finset.Ico 1 32) fun k => atPos ER (cell c (kAgr (fwd c k))) 1 ∅ 0 := bigSep_congr fun k h => by rw [end_agr c h]
  unfold PosParts
  rw [e1, e2, e3, e4, show endK c (kRecv c) = 0 from if_pos rfl, show endK c (kAgr c) = 0 from if_pos rfl]
  rfl

/-! ## The whole -/

def Toks (c : Dev nD) : sProp 𝕄 := iprop(TokB c ∗ TokX c ∗ TokA c ∗ TokW c)
def Creds (c : Dev nD) : sProp 𝕄 :=
  iprop(cred (tallyAt (cell c kBar) () 31)
    ∗ (bigSep (Finset.Ico 1 32) fun k => cred (tallyAt (cell c (kRecv (bwd c k))) () N1))
    ∗ bigSep (Finset.Ico 1 32) fun k => cred (tallyAt (cell c (kAgr (fwd c k))) () N3))
/-- The scratch buffers, whole. -/
def Scratch (c : Dev nD) : sProp 𝕄 :=
  iprop((∃ f, lS c ↦{fullShare} f) ∗ (∃ f, lR c ↦{fullShare} f) ∗ (∃ f, lT c ↦{fullShare} f) ∗ (∃ f, lB c ↦{fullShare} f) ∗ ∃ f, lA c ↦{fullShare} f)

theorem fresh_one (c : Dev nD) (k : ℕ) :
    iprop((dutyTok ER (cell c (kW k 0)) (k / 4) 0 ∗ dutyTok ER (cell c (kW k 1)) (k / 4) 0) ∗ (wPts c (bwd c k) 0 (W m c) ∗ wPts c (bwd c k) 1 (W m c)))
      ⊢ Fresh2 m c k := by
  unfold Fresh2 Fresh
  iintro ⟨⟨H1, H2⟩, H3, H4⟩
  iframe

theorem fresh_all (c : Dev nD) : iprop(TokW c ∗ lW c ↦{fullShare} W m c) ⊢ bigSep (Finset.Ico 0 32) (Fresh2 m c) := by
  rw [w_split]
  unfold TokW
  rw [← bigSep_sep']
  exact bigSep_mono fun k _ => fresh_one c k

theorem arecv_eq (c : Dev nD) : bigSep (Finset.Ico 1 32) (ARecv (F := F) c)
    = iprop((bigSep (Finset.Ico 1 32) fun k => cred (tallyAt (cell c (kRecv (bwd c k))) () N1))
      ∗ bigSep (Finset.Ico 1 32) fun k => atPos ER (cell c (kRecv (bwd c k))) 0 ∅ 0) := by
  rw [← bigSep_sep']; rfl
theorem brecv_eq (c : Dev nD) : bigSep (Finset.Ico 1 32) (BRecv m c)
    = iprop((bigSep (Finset.Ico 1 32) fun k => rowPts c (bwd c k) (XR m c))
      ∗ bigSep (Finset.Ico 1 32) fun k => atPos ER (cell c (kRecv (bwd c k))) 1 ∅ 0) := by
  rw [← bigSep_sep']; rfl
theorem aagr_eq (c : Dev nD) : bigSep (Finset.Ico 1 32) (AAgr (F := F) c)
    = iprop((bigSep (Finset.Ico 1 32) fun k => cred (tallyAt (cell c (kAgr (fwd c k))) () N3))
      ∗ bigSep (Finset.Ico 1 32) fun k => atPos ER (cell c (kAgr (fwd c k))) 0 ∅ 0) := by
  rw [← bigSep_sep']; rfl

abbrev theBody (c : Dev nD) : PG F PUnit :=
  bodyAt xM wM oM sM hsM rM hrM tM bM hbM aM cc0_scratch5 cc0_scratch6 cc0_scratch7 cc0_scratch8 cc0_scratch9 c

/-- What the idle semaphores' positions are. -/
abbrev Idle (c : Dev nD) : sProp 𝕄 :=
  iprop(atPos ER (cell c (kSend 0)) 0 ∅ 0 ∗ atPos ER (cell c (kRecv c)) 0 ∅ 0 ∗ atPos ER (cell c (kAgs 0)) 0 ∅ 0 ∗ atPos ER (cell c (kAgr c)) 0 ∅ 0)

set_option maxHeartbeats 1000000 in
theorem body_cut (c : Dev nD) (fs : Vec F S4096x128 .bf16) (fb : Vec F S8x128 .f32) (fo : Vec F S128x8192 .f32) (Y : sProp 𝕄) :
    Tr m K c (theBody c)
      iprop((bigSep (Finset.Ico 1 32) (ASig c) ∗ ow c (O₀ c) ∗ (cred (tallyAt (cell c kBar) () 31) ∗ atPos ER (cell c kBar) 0 ∅ 0)
          ∗ (lX c ↦{fullShare} X m c) ∗ (lS c ↦{fullShare} fs) ∗ TokX c)
        ∗ (bigSep (Finset.Ico 0 32) (Fresh2 m c) ∗ (Avail2 c 0 ∗ Avail2 c 1 ∗ Avail2 c 2 ∗ Avail2 c 3)
          ∗ bigSep (Finset.Ico 1 32) (ARecv c) ∗ (lO c ↦{fullShare} fo))
        ∗ ((lB c ↦{fullShare} fb) ∗ TokA c ∗ bigSep (Finset.Ico 1 32) (AAgr c) ∗ ∃ f, amPts c c f)
        ∗ ((bigSep (Finset.Ico 1 32) fun k => atPos ER (cell c (kSend k)) 0 ∅ 0) ∗ bigSep (Finset.Ico 1 32) fun k => atPos ER (cell c (kAgs k)) 0 ∅ 0)
        ∗ Y)
      (fun _ => iprop((atPos ER (cell c kBar) 1 ∅ 0 ∗ (lX c ↦{fullShare} X m c) ∗ xsPts c c (XS m c))
        ∗ (bigSep (Finset.Ico 0 32) (Done m c) ∗ (Avail2 c 32 ∗ Avail2 c 33 ∗ Avail2 c 34 ∗ Avail2 c 35) ∗ bigSep (Finset.Ico 1 32) (BRecv m c))
        ∗ ((lO c ↦{fullShare} outF m c) ∗ (∃ f, lA c ↦{fullShare} f)
          ∗ (boxPts c (shareDrop fullShare 32) (BX m c) ∗ boxPts c (shareTokN fullShare 0) (BX m c))
          ∗ bigSep (Finset.Ico 1 32) fun k => atPos ER (cell c (kAgr (fwd c k))) 1 ∅ 0)
        ∗ (bigSep (Finset.Ico 1 32) (BSendW m c) ∗ bigSep (Finset.Ico 1 32) (BAgsW m c) ∗ ow c 0)
        ∗ Y)) := by
  refine Tr.pre (p_entry c fs iprop((bigSep (Finset.Ico 0 32) (Fresh2 m c) ∗ (Avail2 c 0 ∗ Avail2 c 1 ∗ Avail2 c 2 ∗ Avail2 c 3)
          ∗ bigSep (Finset.Ico 1 32) (ARecv c) ∗ (lO c ↦{fullShare} fo))
        ∗ ((lB c ↦{fullShare} fb) ∗ TokA c ∗ bigSep (Finset.Ico 1 32) (AAgr c) ∗ ∃ f, amPts c c f)
        ∗ ((bigSep (Finset.Ico 1 32) fun k => atPos ER (cell c (kSend k)) 0 ∅ 0) ∗ bigSep (Finset.Ico 1 32) fun k => atPos ER (cell c (kAgs k)) 0 ∅ 0)
        ∗ Y) ?_) ?_
  swap
  · iintro ⟨⟨H1, H2, H3, H4, H5, H6⟩, H7, H8, H9, H10⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  refine Tr.pre (p_ring c fo iprop((bigSep (Finset.Ico 1 32) (BSend c) ∗ Landing c ∗ (lX c ↦{fullShare} X m c) ∗ atPos ER (cell c kBar) 1 ∅ 0)
        ∗ ((lB c ↦{fullShare} fb) ∗ TokA c ∗ bigSep (Finset.Ico 1 32) (AAgr c) ∗ ∃ f, amPts c c f)
        ∗ ((bigSep (Finset.Ico 1 32) fun k => atPos ER (cell c (kSend k)) 0 ∅ 0) ∗ bigSep (Finset.Ico 1 32) fun k => atPos ER (cell c (kAgs k)) 0 ∅ 0)
        ∗ Y) ?_) ?_
  swap
  · iintro ⟨H1, H2, H3, H4, H5, H6, ⟨H7, H8, H9, H10⟩, G1, G2, G3⟩
    isplitl [H7]; · iexact H7
    isplitl [H8]; · iexact H8
    isplitl [H9]; · iexact H9
    isplitl [H3]; · iexact H3
    isplitl [H10]; · iexact H10
    isplitl [H6]; · iexact H6
    isplitl [H1 H2 H4 H5]
    · isplitl [H1]; · iexact H1
      isplitl [H2]; · iexact H2
      isplitl [H4]; · iexact H4
      iexact H5
    isplitl [G1]; · iexact G1
    isplitl [G2]; · iexact G2
    iexact G3
  refine Tr.pre (p_max c fb iprop((bigSep (Finset.Ico 1 32) (BSend c) ∗ (lX c ↦{fullShare} X m c) ∗ atPos ER (cell c kBar) 1 ∅ 0)
        ∗ (bigSep (Finset.Ico 0 32) (Done m c) ∗ (Avail2 c 32 ∗ Avail2 c 33 ∗ Avail2 c 34 ∗ Avail2 c 35)
          ∗ bigSep (Finset.Ico 1 32) (BRecv m c) ∗ xsPts c c (XS m c))
        ∗ ((bigSep (Finset.Ico 1 32) fun k => atPos ER (cell c (kSend k)) 0 ∅ 0) ∗ bigSep (Finset.Ico 1 32) fun k => atPos ER (cell c (kAgs k)) 0 ∅ 0)
        ∗ Y) ?_) ?_
  swap
  · iintro ⟨H1, H2, H3, H4, H5, H6, ⟨H7, H8, H9, H10⟩, ⟨G1, G2, G3, G4⟩, G5, G6⟩
    isplitl [H5]; · iexact H5
    isplitl [G1]; · iexact G1
    isplitl [H8]; · iexact H8
    isplitl [G2]; · iexact G2
    isplitl [G3]; · iexact G3
    isplitl [G4]; · iexact G4
    isplitl [H6]; · iexact H6
    isplitl [H7 H9 H10]
    · isplitl [H7]; · iexact H7
      isplitl [H9]; · iexact H9
      iexact H10
    isplitl [H1 H2 H3 H4]
    · isplitl [H1]; · iexact H1
      isplitl [H2]; · iexact H2
      isplitl [H3]; · iexact H3
      iexact H4
    isplitl [G5]; · iexact G5
    iexact G6
  refine ((Tr.frame iprop((atPos ER (cell c kBar) 1 ∅ 0 ∗ (lX c ↦{fullShare} X m c) ∗ xsPts c c (XS m c))
        ∗ (bigSep (Finset.Ico 0 32) (Done m c) ∗ (Avail2 c 32 ∗ Avail2 c 33 ∗ Avail2 c 34 ∗ Avail2 c 35) ∗ bigSep (Finset.Ico 1 32) (BRecv m c))
        ∗ ((lO c ↦{fullShare} outF m c) ∗ (∃ f, lA c ↦{fullShare} f)
          ∗ (boxPts c (shareDrop fullShare 32) (BX m c) ∗ boxPts c (shareTokN fullShare 0) (BX m c))
          ∗ bigSep (Finset.Ico 1 32) fun k => atPos ER (cell c (kAgr (fwd c k))) 1 ∅ 0) ∗ Y) (p_exit (m := m) (K := K) c)).pre ?_).post fun _ => ?_
  · rw [asendw_eq, aagsw_eq]
    iintro ⟨H1, H2, H3, H4, H5, H6, ⟨H7, H8, H9⟩, ⟨G1, G2, G3, G4⟩, ⟨G5, G6⟩, G7⟩
    isplitl [H4 H6 H7 G5 G6]
    · isplitl [H7 G5]
      · isplitl [H7]; · iexact H7
        iexact G5
      isplitl [H4 G6]
      · isplitl [H4]; · iexact H4
        iexact G6
      iexact H6
    isplitl [H8 H9 G4]
    · isplitl [H9]; · iexact H9
      isplitl [H8]; · iexact H8
      iexact G4
    isplitl [G1 G2 G3]
    · isplitl [G1]; · iexact G1
      isplitl [G2]; · iexact G2
      iexact G3
    isplitl [H1 H2 H3 H5]
    · isplitl [H1]; · iexact H1
      isplitl [H2]; · iexact H2
      isplitl [H3]; · iexact H3
      iexact H5
    iexact G7
  · iintro ⟨H1, H2, H3, H4, H5⟩
    isplitl [H2]; · iexact H2
    isplitl [H3]; · iexact H3
    isplitl [H4]; · iexact H4
    isplitl [H1]; · iexact H1
    iexact H5

set_option maxHeartbeats 1000000 in
/-- The body: a device's share of the launch taken to its result. -/
theorem body_tr (c : Dev nD) (fo : Vec F S128x8192 .f32) :
    Tr m K c (theBody c)
      iprop(Toks c ∗ Creds c ∗ Pos c (fun _ => 0) ∗ Scratch c ∗ (lX c ↦{fullShare} X m c) ∗ (lO c ↦{fullShare} fo) ∗ (lW c ↦{fullShare} W m c) ∗ ow c (O₀ c))
      (fun _ => iprop((lX c ↦{fullShare} X m c) ∗ (lO c ↦{fullShare} outF m c) ∗ Scratch c ∗ (lW c ↦{fullShare} W m c) ∗ Pos c (endK c) ∗ ow c 0)) := by
  refine Tr.pre (P' := iprop(∃ fs : Vec F S4096x128 .bf16, ∃ fr : Vec F S32x128x128 .bf16, ∃ ft : Vec F S4x128x8192 .f32, ∃ fb : Vec F S8x128 .f32, ∃ fa : Vec F S32x8x128 .f32,
      Toks c ∗ Creds c ∗ Pos c (fun _ => 0) ∗ ((lS c ↦{fullShare} fs) ∗ (lR c ↦{fullShare} fr) ∗ (lT c ↦{fullShare} ft) ∗ (lB c ↦{fullShare} fb) ∗ (lA c ↦{fullShare} fa))
        ∗ (lX c ↦{fullShare} X m c) ∗ (lO c ↦{fullShare} fo) ∗ (lW c ↦{fullShare} W m c) ∗ ow c (O₀ c))) ?_ ?_
  swap
  · unfold Scratch
    iintro ⟨H1, H2, H3, ⟨⟨%fs, HS⟩, ⟨%fr, HR⟩, ⟨%ft, HT⟩, ⟨%fb, HB⟩, ⟨%fa, HA⟩⟩, H4, H5, H6, H7⟩
    iexists fs; iexists fr; iexists ft; iexists fb; iexists fa
    iframe
  refine Tr.exists fun fs => Tr.exists fun fr => Tr.exists fun ft => Tr.exists fun fb => Tr.exists fun fa => ?_
  refine Tr.conseq (body_cut c fs fb fo iprop(Idle c ∗ ∃ f, rowPts c c f)) ?_ fun _ => ?_
  · rw [pos_parts]
    unfold PosParts Toks Creds
    rw [asig_eq, arecv_eq, aagr_eq]
    iintro ⟨#HC, ⟨T1, T2, T3, T4⟩, ⟨C1, C2, C3⟩, ⟨P1, ⟨P2, P2'⟩, ⟨P3, P3'⟩, ⟨P4, P4'⟩, ⟨P5, P5'⟩, P6⟩, ⟨B1, B2, B3, B4, B5⟩, B6, B7, B8, HO⟩
    ihave R := rows_split c fr $$ B2
    icases R with ⟨R1, R2⟩
    ihave A := ams_split c fa $$ B5
    icases A with ⟨A1, A2⟩
    ihave Sl := wt_split c ft $$ B3
    ihave Av := avail_all (m := m) (K := K) c $$ [Sl P6]
    · isplitr; · iexact HC
      isplitl [Sl]; · iexact Sl
      iexact P6
    ihave Fr := fresh_all (m := m) c $$ [T4 B8]
    · isplitl [T4]; · iexact T4
      iexact B8
    isplitl [T1 R2 A2 HO C1 P1 B6 B1 T2]
    · isplitl [T1 R2 A2]
      · isplitl [T1]; · iexact T1
        isplitl [R2]; · iexact R2
        iexact A2
      isplitl [HO]; · iexact HO
      isplitl [C1 P1]
      · isplitl [C1]; · iexact C1
        iexact P1
      isplitl [B6]; · iexact B6
      isplitl [B1]; · iexact B1
      iexact T2
    isplitl [Fr Av C2 P3' B7]
    · isplitl [Fr]; · iexact Fr
      isplitl [Av]; · iexact Av
      isplitl [C2 P3']
      · isplitl [C2]; · iexact C2
        iexact P3'
      iexact B7
    isplitl [B4 T3 C3 P5' A1]
    · isplitl [B4]; · iexact B4
      isplitl [T3]; · iexact T3
      isplitl [C3 P5']
      · isplitl [C3]; · iexact C3
        iexact P5'
      iexact A1
    isplitl [P2' P4']
    · isplitl [P2']; · iexact P2'
      iexact P4'
    isplitl [P2 P3 P4 P5]
    · isplitl [P2]; · iexact P2
      isplitl [P3]; · iexact P3
      isplitl [P4]; · iexact P4
      iexact P5
    iexact R1
  · rw [pos_parts, pos_end, bsendw_eq, bagsw_eq, brecv_eq]
    unfold Scratch
    iintro ⟨⟨P1, B1, XA⟩, ⟨DW, AV, RR, P3'⟩, ⟨B2, B3, ⟨BB, BB'⟩, P5'⟩, ⟨⟨XX, P2'⟩, ⟨BB'', P4'⟩, HO⟩, ⟨P2, P3, P4, P5⟩, R1⟩
    ihave Sl := avail_join c $$ AV
    icases Sl with ⟨Sl, P6⟩
    ihave T := wt_join c ft $$ Sl
    ihave R := rows_join c (XR m c) $$ [R1 RR]
    · isplitl [R1]; · iexact R1
      iexact RR
    isplitl [B1]; · iexact B1
    isplitl [B2]; · iexact B2
    isplitl [XA XX R T BB BB' BB'' B3]
    · isplitl [XA XX]
      · iexists (XS m c)
        rw [xs_split]
        isplitl [XA]; · iexact XA
        iexact XX
      isplitl [R]; · iexact R
      isplitl [T]; · iexact T
      isplitl [BB BB' BB'']
      · iexists (BX m c)
        rw [box_parts]
        isplitl [BB]; · iexact BB
        isplitl [BB']; · iexact BB'
        iexact BB''
      iexact B3
    isplitl [DW]
    · rw [w_split]
      iexact DW
    isplitr [HO]
    · isplitl [P1]; · iexact P1
      isplitl [P2 P2']
      · isplitl [P2]; · iexact P2
        iexact P2'
      isplitl [P3 P3']
      · isplitl [P3]; · iexact P3
        iexact P3'
      isplitl [P4 P4']
      · isplitl [P4]; · iexact P4
        iexact P4'
      isplitl [P5 P5']
      · isplitl [P5]; · iexact P5
        iexact P5'
      iexact P6
    iexact HO

end Recs

end Cert.K01
-- ==== Proof.Deal.lean ====
/-
# The launch's deal

What the launch mints, dealt out: the semaphores' invariants to everybody, the tokens of the duties to whoever performs
them, the credits to whoever waits for them.
-/
module

public import proofs.«01_k».proof.Proof.Whole
public import Idealize.ShloMosaic.Lib.Pipeline.CollectiveSegs

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

/-! ## With the invariants at hand -/

theorem sep_persist {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem Tr.close {m : (ℓ : Loc nD τ sig) → Buf (Elt F) ℓ} {K : Dev nD × Ck → ℕ} {c : Dev nD} {α : Type} {p : PG F α} {P : sProp 𝕄} {R R' : α → sProp 𝕄}
    (h : Tr m K c p P R) (hR : ∀ v, iprop(Ctx m K ∗ R v) ⊢ |={Set.univ}=> R' v) : Tr m K c p P R' := fun Q => by
  have e : p >>= Pure.pure = p := bind_pure p
  rw [← e, wp_bind]
  iintro ⟨#HC, HP, HQ⟩
  iapply (h _)
  isplitr; · iexact HC
  isplitl [HP]; · iexact HP
  iintro %v HR
  rw [wp_pure]
  imod (hR v) $$ [HR] with H
  · isplitr; · iexact HC
    iexact HR
  imodintro
  iapply HQ
  iexact H

theorem close_one (m : (ℓ : Loc nD τ sig) → Buf (Elt F) ℓ) (K : Dev nD × Ck → ℕ) (c : Dev nD) (k : Ck) :
    iprop(Ctx m K ∗ atPos ER (cell c k) (endK c k) ∅ 0) ⊢ |={Set.univ}=> semVal (cell c k) 0 := by
  iintro ⟨#HC, HP⟩
  iapply (cell_close ER (Rd m) (κ := K (c, k)) (Set.mem_univ _) (fun h => h) (R := endK c k)
    (fun r hr => (duties_cell m c k r).trans (endK_duties c k r hr)))
  isplitr
  · iapply (ctx_inv m K c k); iexact HC
  iexact HP

theorem close_all (m : (ℓ : Loc nD τ sig) → Buf (Elt F) ℓ) (K : Dev nD × Ck → ℕ) (c : Dev nD) :
    iprop(Ctx m K ∗ Pos c (endK c)) ⊢ |={Set.univ}=> bigSep Finset.univ fun k : Ck => semVal (cell c k) 0 :=
  (sep_persist fun k _ => close_one m K c k).trans (bigSep_fupd _ _)

/-! ## The tokens -/

theorem cell_inj {c c' : Dev nD} {k k' : Ck} (h : cell c k = cell c' k') : c = c' ∧ k = k' :=
  ⟨congrArg (fun g : GSem nD τ sig => g.1.1) h, csem_inj (congrArg Prod.snd h)⟩

def kcell (ck : Dev nD × Ck) : GSem nD τ sig := cell ck.1 ck.2

theorem kcell_inj : Function.Injective kcell := fun a b h =>
  Prod.ext (cell_inj (show cell a.1 a.2 = cell b.1 b.2 from h)).1 (cell_inj (show cell a.1 a.2 = cell b.1 b.2 from h)).2

def allCells : Finset (GSem nD τ sig) := Finset.univ.map ⟨kcell, kcell_inj⟩

/-- A device's duties: its barrier's by the payer, the four families' by the place, the slots' halves by the round. -/
abbrev Tk := Dev nD ⊕ (Fin 4 × Fin 32) ⊕ ((Fin 4 × Fin 2) × Fin 8)

def tokOf : Dev nD × Tk → GSem nD τ sig × ℕ × Dev nD
  | (c, .inl p) => (cell c kBar, 0, p)
  | (c, .inr (.inl x)) => (cell c (some (.inl x)), 0, 0)
  | (c, .inr (.inr (x, r))) => (cell c (some (.inr x)), r.val, 0)

theorem tokOf_inj : Function.Injective tokOf := by
  rintro ⟨c, p | x | ⟨x, r⟩⟩ ⟨c', p' | x' | ⟨x', r'⟩⟩ h
  · have h1 := cell_inj (congrArg Prod.fst h)
    have h2 : p = p' := congrArg (fun x => x.2.2) h
    rw [h1.1, h2]
  · exact absurd (cell_inj (congrArg Prod.fst h)).2 (fun e => by cases e)
  · exact absurd (cell_inj (congrArg Prod.fst h)).2 (fun e => by cases e)
  · exact absurd (cell_inj (congrArg Prod.fst h)).2 (fun e => by cases e)
  · have h1 := cell_inj (congrArg Prod.fst h)
    have h2 : x = x' := Sum.inl.inj (Option.some.inj h1.2)
    rw [h1.1, h2]
  · exact absurd (cell_inj (congrArg Prod.fst h)).2 (fun e => by cases e)
  · exact absurd (cell_inj (congrArg Prod.fst h)).2 (fun e => by cases e)
  · exact absurd (cell_inj (congrArg Prod.fst h)).2 (fun e => by cases e)
  · have h1 := cell_inj (congrArg Prod.fst h)
    have h2 : x = x' := Sum.inr.inj (Option.some.inj h1.2)
    have h3 : r = r' := Fin.ext (congrArg (fun x => x.2.1) h)
    rw [h1.1, h2, h3]

def allToks : Finset (GSem nD τ sig × ℕ × Dev nD) := Finset.univ.map ⟨tokOf, tokOf_inj⟩

/-- A device's duties' tokens, by the semaphore they are of. -/
def Mint (c : Dev nD) : sProp 𝕄 :=
  iprop((bigSep Finset.univ fun p : Dev nD => dutyTok ER (cell c kBar) 0 p)
    ∗ ((bigSep Finset.univ fun i : Fin 32 => dutyTok ER (cell c (some (.inl (0, i)))) 0 0)
        ∗ (bigSep Finset.univ fun j : Fin 32 => dutyTok ER (cell c (some (.inl (1, j)))) 0 0)
        ∗ (bigSep Finset.univ fun i : Fin 32 => dutyTok ER (cell c (some (.inl (2, i)))) 0 0)
        ∗ bigSep Finset.univ fun j : Fin 32 => dutyTok ER (cell c (some (.inl (3, j)))) 0 0)
    ∗ bigSep Finset.univ fun s : Fin 4 =>
        iprop((bigSep Finset.univ fun r : Fin 8 => dutyTok ER (cell c (some (.inr (s, 0)))) r.val 0)
          ∗ bigSep Finset.univ fun r : Fin 8 => dutyTok ER (cell c (some (.inr (s, 1)))) r.val 0))

theorem mint_eq : bigSep allToks (fun x => (dutyTok ER x.1 x.2.1 x.2.2 : sProp 𝕄)) = bigSep Finset.univ fun c : Dev nD => Mint c := by
  unfold allToks
  rw [bigSep_map, bigSep_univ_prod]
  refine bigSep_congr fun c _ => ?_
  unfold Mint
  rw [bigSep_univ_sum, bigSep_univ_sum, bigSep_univ_prod, bigSep_univ_prod, bigSep_univ_prod, sep_four (fun i : Fin 4 => bigSep Finset.univ fun j : Fin 32 => _)]
  rw [bigSep_congr (s := (Finset.univ : Finset (Fin 4))) fun s _ => bigSep_fin_two _]
  rfl

theorem slot_image : (Finset.Ico 0 32) = (Finset.univ : Finset (Fin 4 × Fin 8)).image fun x => 4 * x.2.val + x.1.val := by decide +kernel

theorem sep_slot (Φ : ℕ → sProp 𝕄) : bigSep (Finset.Ico 0 32) Φ = bigSep Finset.univ fun s : Fin 4 => bigSep Finset.univ fun r : Fin 8 => Φ (4 * r.val + s.val) := by
  rw [slot_image, bigSep_image_of_injOn (fun x _ y _ h => Prod.ext (Fin.ext (by omega)) (Fin.ext (by omega))) Φ, bigSep_univ_prod]

theorem tokW_eq (c : Dev nD) : TokW (F := F) c = bigSep Finset.univ fun s : Fin 4 =>
        iprop((bigSep Finset.univ fun r : Fin 8 => dutyTok ER (cell c (some (.inr (s, 0)))) r.val 0)
          ∗ bigSep Finset.univ fun r : Fin 8 => dutyTok ER (cell c (some (.inr (s, 1)))) r.val 0) := by
  unfold TokW
  rw [sep_slot]
  refine bigSep_congr fun s _ => ?_
  rw [← bigSep_sep']
  refine bigSep_congr fun r _ => ?_
  have h1 : (4 * r.val + s.val) / 4 = r.val := by omega
  have h2 : slotOf (4 * r.val + s.val) = s := Fin.ext (show (4 * r.val + s.val) % 4 = s.val by omega)
  rw [h1, kW, kW, h2]

theorem sep_drop (c : Dev nD) (Φ : Dev nD → sProp 𝕄) : bigSep Finset.univ Φ ⊢ bigSep (Finset.Ico 1 32) fun k => Φ (fwd c k) := by
  rw [sep_fwd' c]
  iintro ⟨-, H⟩
  iexact H
theorem num_drop (Φ : Fin 32 → sProp 𝕄) : bigSep Finset.univ Φ ⊢ bigSep (Finset.Ico 1 32) fun k => Φ ⟨k % 32, Nat.mod_lt _ (by decide)⟩ := by
  rw [sep_num]
  iintro ⟨-, H⟩
  iexact H

theorem toks_deal : (bigSep Finset.univ fun c : Dev nD => (Mint c : sProp 𝕄)) ⊢ bigSep Finset.univ fun c : Dev nD => Toks c := by
  unfold Mint Toks TokX TokA
  simp only [tokW_eq, bigSep_sep']
  rw [Pipeline.bigSep_univ_comm (fun c p : Dev nD => (dutyTok ER (cell c kBar) 0 p : sProp 𝕄)),
    Pipeline.bigSep_univ_comm (fun (c : Dev nD) (j : Fin 32) => (dutyTok ER (cell c (some (.inl (1, j)))) 0 0 : sProp 𝕄)),
    Pipeline.bigSep_univ_comm (fun (c : Dev nD) (j : Fin 32) => (dutyTok ER (cell c (some (.inl (3, j)))) 0 0 : sProp 𝕄))]
  iintro ⟨H1, ⟨H2, H3, H4, H5⟩, H6⟩
  isplitl [H1]
  · iapply (show (bigSep Finset.univ fun p : Dev nD => bigSep Finset.univ fun c : Dev nD => (dutyTok ER (cell c kBar) 0 p : sProp 𝕄)) ⊢ bigSep Finset.univ fun c => TokB c
      from bigSep_mono fun p _ => sep_drop p _)
    iexact H1
  isplitl [H2 H3]
  · isplitl [H2]
    · iapply (show (bigSep Finset.univ fun c : Dev nD => bigSep Finset.univ fun i : Fin 32 => (dutyTok ER (cell c (some (.inl (0, i)))) 0 0 : sProp 𝕄))
          ⊢ bigSep Finset.univ fun c : Dev nD => bigSep (Finset.Ico 1 32) fun k => dutyTok ER (cell c (kSend k)) 0 0
        from bigSep_mono fun c _ => num_drop _)
      iexact H2
    · iapply (show (bigSep Finset.univ fun j : Fin 32 => bigSep Finset.univ fun c : Dev nD => (dutyTok ER (cell c (some (.inl (1, j)))) 0 0 : sProp 𝕄))
          ⊢ bigSep Finset.univ fun c : Dev nD => bigSep (Finset.Ico 1 32) fun k => dutyTok ER (cell (fwd c k) (kRecv c)) 0 0
        from bigSep_mono fun c _ => sep_drop c _)
      iexact H3
  isplitl [H4 H5]
  · isplitl [H4]
    · iapply (show (bigSep Finset.univ fun c : Dev nD => bigSep Finset.univ fun i : Fin 32 => (dutyTok ER (cell c (some (.inl (2, i)))) 0 0 : sProp 𝕄))
          ⊢ bigSep Finset.univ fun c : Dev nD => bigSep (Finset.Ico 1 32) fun k => dutyTok ER (cell c (kAgs k)) 0 0
        from bigSep_mono fun c _ => num_drop _)
      iexact H4
    · iapply (show (bigSep Finset.univ fun j : Fin 32 => bigSep Finset.univ fun c : Dev nD => (dutyTok ER (cell c (some (.inl (3, j)))) 0 0 : sProp 𝕄))
          ⊢ bigSep Finset.univ fun c : Dev nD => bigSep (Finset.Ico 1 32) fun k => dutyTok ER (cell (fwd c k) (kAgr c)) 0 0
        from bigSep_mono fun c _ => sep_drop c _)
      iexact H5
  iexact H6

/-! ## The global step -/

section Glob

variable (m : (ℓ : Loc nD τ sig) → Buf (Elt F) ℓ)

def u₀ : UU := (initOf (Pipeline.cells cfgs cellOf_inj) (Pipeline.launchToks cfgs cellOf_inj), initOf allCells allToks)

/-- What the launch deals a device, -/
def G (c : Dev nD) : sProp 𝕄 :=
  iprop((bigSep Finset.univ fun k : Ck => roundState ER (Rd m) (cell c k) 0)
    ∗ Pos c (fun _ => 0) ∗ (bigSep Finset.univ fun k : Ck => reached ER (cell c k) 0) ∗ Mint c)

/-- and what the global step makes of it. -/
def G' (c : Dev nD) : sProp 𝕄 := iprop(∃ K, records m K ∗ Toks c ∗ Pos c (fun _ => 0))

theorem cells_eq (Φ : GSem nD τ sig → sProp 𝕄) : bigSep allCells Φ = bigSep Finset.univ fun c : Dev nD => bigSep Finset.univ fun k : Ck => Φ (cell c k) := by
  unfold allCells; rw [bigSep_map, bigSep_univ_prod]; rfl

theorem fund_all : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst' := (Entails.of_eq (cells_eq fun g => roundState ER (Rd m) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq mint_eq) $$ Htok
  unfold G Pos; simp only [bigSep_sep']
  iframe

theorem unscoped_eq (c : Dev nD) : (unscopedSems0 c : sProp 𝕄) = semVal (cell c kBar) 0 := by
  unfold unscopedSems0; rw [bigSep_eq_bigSepL_of_eq [SemLoc.reg barS] (by decide +kernel) (by decide +kernel)]; rfl

theorem sems_eq (c : Dev nD) : (bigSep Finset.univ fun k : Ck => semVal (cell c k) 0 : sProp 𝕄)
    = iprop(unscopedSems0 c ∗ Pipeline.ownSems0 (Ix := Unit) (Name := ℕ) (U := UU) (Lvl := ℕ) (Val := Elt F) (τ := τ) osem c) := by
  rw [sep_option, unscoped_eq]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (Rd m) κ (cell c k)))
          ∗ Pos c (fun _ => 0) ∗ (bigSep Finset.univ fun k : Ck => reached ER (cell c k) 0) ∗ Mint c) := by
  unfold G
  iintro ⟨Hos, Hus, Hst, Hat, Hr, Htok⟩
  ihave Hv := (Entails.of_eq (sems_eq (F := F) c).symm) $$ [Hos Hus]
  · iframe
  imod (show iprop((bigSep Finset.univ fun k : Ck => semVal (cell c k) 0) ∗ bigSep Finset.univ fun k : Ck => roundState ER (Rd m) (cell c k) 0)
      ⊢ (|={Set.univ}=> bigSep Finset.univ fun k : Ck => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · iframe
  imodintro
  iframe

theorem regroup :
    (bigSep Finset.univ fun c : Dev nD => iprop((bigSep Finset.univ fun k : Ck => iprop(∃ κ : ℕ, cellInv ER (Rd m) κ (cell c k)))
          ∗ Pos c (fun _ => 0) ∗ (bigSep Finset.univ fun k : Ck => reached ER (cell c k) 0) ∗ Mint c) : sProp 𝕄)
      ⊢ bigSep Finset.univ (G' m) := by
  rw [bigSep_sep', bigSep_sep', bigSep_sep', ← bigSep_univ_prod (fun ck : Dev nD × Ck => iprop(∃ κ : ℕ, cellInv ER (Rd m) κ (cell ck.1 ck.2))),
    ← bigSep_univ_prod (fun ck : Dev nD × Ck => (reached ER (cell ck.1 ck.2) 0 : sProp 𝕄))]
  iintro ⟨HI, Hat, #HR, Htok⟩
  ihave HK := (BI.bigSep_exists_pi Finset.univ (fun (ck : Dev nD × Ck) (κ : ℕ) => (cellInv ER (Rd m) κ (cell ck.1 ck.2) : sProp 𝕄))) $$ HI
  icases HK with ⟨%K, #HI⟩
  ihave Htk := (toks_deal (F := F)) $$ Htok
  iapply (sep_persist (S := Finset.univ) (R := records m K) (Φ := fun c : Dev nD => iprop(Toks c ∗ Pos c (fun _ => 0))) (Ψ := G' m) fun c _ => ex_one (fun K => iprop(records m K ∗ Toks c ∗ Pos c (fun _ => 0))) K)
  isplitr
  · unfold records; isplitl; · iexact HI
    iexact HR
  · rw [bigSep_sep']
    iframe

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Glob

/-! ## The credits -/

/-- Everybody owing something to the device `k` places on, at a semaphore named by the debtor. -/
theorem cred_around (k : ℕ) (κ : Dev nD → Ck) (n : ℕ) (c : Dev nD) :
    (Pipeline.launchCred (fun d => (tallyAt (cell (fwd d k) (κ d)) () n : CellTallies nD τ sig Unit)) c : sProp 𝕄)
      ⊢ cred (tallyAt (cell c (κ (bwd c k))) () n) := by
  refine (Pipeline.launchCred_elim _ c (csem (κ (bwd c k)))).trans (Entails.of_eq (congrArg cred ?_))
  show tallyOn (cell c (κ (bwd c k))) _ = tallyOn (cell c (κ (bwd c k))) _
  refine congrArg _ (Finsupp.ext fun u => ?_)
  cases u
  rw [Pipeline.launchCredit_owing, Finsupp.single_eq_same, Finset.sum_eq_single (bwd c k)]
  · rw [fwd_bwd]
    exact (tallyAt_apply _ _ _ _ _).trans (if_pos ⟨rfl, rfl⟩)
  · intro d _ hd
    rw [tallyAt_ne_cell, Finsupp.zero_apply]
    intro e
    exact hd (by rw [← bwd_fwd d k, ← (cell_inj e).1])
  · exact fun h => absurd (Finset.mem_univ _) h

theorem cred_many (g : GSem nD τ sig) (s : Finset ℕ) :
    (bigSep s fun _ => (cred (tallyAt g () 1) : sProp 𝕄)) ⊢ cred (tallyAt g () s.card) := by
  induction s using Finset.induction_on with
  | empty =>
    rw [Finset.card_empty, show (tallyAt g () 0 : CellTallies nD τ sig Unit) = 0 from by unfold tallyAt; rw [Finsupp.single_zero, tallyOn_zero], cred_zero, bigSep_empty]
    exact BI.Entails.refl _
  | insert a s ha ih =>
    rw [bigSep_insert ha, Finset.card_insert_of_notMem ha, ← tallyAt_add]
    refine (show iprop(cred (tallyAt g () 1) ∗ bigSep s fun _ => (cred (tallyAt g () 1) : sProp 𝕄)) ⊢ _ from ?_)
    iintro ⟨H1, H2⟩
    ihave H3 := ih $$ H2
    iapply (cred_add _ _).2
    iframe

theorem bwd_image_erase (c : Dev nD) : (Finset.Ico 1 32).image (bwd c) = Finset.univ.erase c := by
  ext p
  rw [Finset.mem_image, Finset.mem_erase]
  constructor
  · rintro ⟨k, hk, rfl⟩
    exact ⟨bwd_ne c (Finset.mem_Ico.mp hk).1 (Finset.mem_Ico.mp hk).2, Finset.mem_univ _⟩
  · rintro ⟨hp, -⟩
    obtain ⟨k, hk, rfl⟩ := bwd_onto c p
    refine ⟨k, Finset.mem_Ico.mpr ⟨Nat.one_le_iff_ne_zero.mpr fun h => hp (by rw [h, bwd_zero]), hk⟩, rfl⟩

theorem sep_turn (c : Dev nD) (Φ : Dev nD → sProp 𝕄) :
    (bigSep (Finset.Ico 1 32) fun k => Φ (bwd c k)) = bigSep (Finset.Ico 1 32) fun k => Φ (fwd c k) := by
  rw [← sep_fwd_erase c, ← bwd_image_erase c]
  exact (bigSep_image_of_injOn (bwd_injOn c 1) Φ).symm

theorem creds (c : Dev nD) : (Pipeline.launchCred O₀ c : sProp 𝕄) ⊢ Creds c := by
  unfold Creds
  rw [show (Pipeline.launchCred O₀ c : sProp 𝕄) = iprop(Pipeline.launchCred (fun d => OB d 1) c ∗ Pipeline.launchCred (fun d => OR d 1) c ∗ Pipeline.launchCred (fun d => OA d 1) c) from by
    rw [← Pipeline.launchCred_add, ← Pipeline.launchCred_add]; rfl]
  rw [show (Pipeline.launchCred (fun d => OB d 1) c : sProp 𝕄) = bigSep (Finset.Ico 1 32) fun k => Pipeline.launchCred (fun d => oB d k) c from
      Pipeline.launchCred_sum (Finset.Ico 1 32) (fun k d => oB d k) c,
    show (Pipeline.launchCred (fun d => OR d 1) c : sProp 𝕄) = bigSep (Finset.Ico 1 32) fun k => Pipeline.launchCred (fun d => oR d k) c from
      Pipeline.launchCred_sum (Finset.Ico 1 32) (fun k d => oR d k) c,
    show (Pipeline.launchCred (fun d => OA d 1) c : sProp 𝕄) = bigSep (Finset.Ico 1 32) fun k => Pipeline.launchCred (fun d => oA d k) c from
      Pipeline.launchCred_sum (Finset.Ico 1 32) (fun k d => oA d k) c,
    ← sep_turn c (fun j => cred (tallyAt (cell c (kAgr j)) () N3))]
  refine sep_mono ?_ (sep_mono ?_ ?_)
  · exact (bigSep_mono fun k _ => cred_around k (fun _ => kBar) 1 c).trans (cred_many (cell c kBar) (Finset.Ico 1 32))
  · exact bigSep_mono fun k _ => cred_around k kRecv N1 c
  · exact bigSep_mono fun k _ => cred_around k kAgr N3 c

end Cert.K01

end
-- ==== Proof.Run.lean ====
/-
# The run

The kernel launched on every device, and what it leaves in memory.
-/
module

public import proofs.«01_k».proof.Proof.Deal
public import proofs.«01_k».proof.Proof.Gen.KernelIdeal.Points
public import Idealize.ShloMosaic.Adequacy
public import Idealize.ShloMosaic.Init
public import Idealize.ShloMosaic.Lib.Pipeline.Value

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

open Idealize.ShloMosaic.Pipeline (Dat BodyObligation)

section Run

variable (m : (ℓ : Loc nD τ sig) → Buf (Elt F) ℓ) (ρ : Dev nD → PrngReg)

/-- Before the kernel's one point a device holds its share of the launch; -/
def start (c : Dev nD) : sProp 𝕄 := iprop(G' m c ∗ levAts L lv ∗ Creds c ∗ lW c ↦{fullShare} W m c)
def Φ₀ (c : Dev nD) : sProp 𝕄 := iprop(start m c ∗ Scratch c)
/-- after it, its buffers and its semaphores back at zero. -/
def Φ₁ (c : Dev nD) : sProp 𝕄 :=
  iprop(Scratch c ∗ (lW c ↦{fullShare} W m c) ∗ bigSep Finset.univ fun k : Ck => semVal (cell c k) 0)

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ m c ∗ (dats m 0 c).owesAt () t0_0.succ ∗ stg c cc0_stg0_0 (X m c) ∗ stg c cc0_stg1_0 (outF m c))

theorem before_x (c : Dev nD) (d) : (dats m 0 c).before (0 : Fin 2) t0_0 d = X m c := by
  unfold Dat.before; rw [if_pos (fetch0_0 t0_0)]; rfl

abbrev body (F : FTy → Type) [FloatOps F] : PG F PUnit :=
  cc0_body (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 cc0_scratch9

theorem body_start (c : Dev nD) (Q : PUnit → sProp 𝕄) :
    wp frame (wpE (defs₀ (F := F)) 𝒱₀ (c : Thread nD τ) none) Set.univ (theBody c) Q
      ⊢ wp frame (wpE (defs₀ (F := F)) 𝒱₀ (c : Thread nD τ) none) Set.univ (body F) Q := by
  rw [body, cc0_body_eq]
  simp only [Prog.lift, Prog.bind_op, Prog.bind_ret]
  rw [wp_deviceId]

theorem body_run (c : Dev nD) : bodyPre m c ⊢ wp frame (wpE (defs₀ (F := F)) 𝒱₀ (c : Thread nD τ) none) Set.univ (body F) (fun _ => bodyPost m c) := by
  unfold bodyPre Φ₀ start G'
  iintro ⟨⟨⟨⟨%K, #HR, HT, HP⟩, #HL, HC, HW⟩, HS⟩, Ho, ⟨%d, %g, %hg, HX⟩, ⟨%d', %go, %hgo, HO⟩⟩
  rw [before_x] at hg
  subst hg
  unfold Dat.owesAt Pipeline.owesWithin
  icases Ho with ⟨%Wt, %hW, Hw⟩
  iapply (body_start c _)
  iapply (Tr.close (m := m) (K := K) (body_tr c go) (R' := fun _ => iprop((lX c ↦{fullShare} X m c) ∗ (lO c ↦{fullShare} outF m c) ∗ Scratch c
      ∗ (lW c ↦{fullShare} W m c) ∗ (bigSep Finset.univ fun k : Ck => semVal (cell c k) 0) ∗ ow c 0)) ?_ _)
  · intro v
    iintro ⟨#HC, H1, H2, H3, H4, H5, H6⟩
    imod (close_all m K c) $$ [H5] with H5
    · isplitr; · iexact HC
      iexact H5
    imodintro
    iframe
  isplitr
  · unfold Ctx
    isplitr; · iexact HR
    iexact HL
  isplitl
  · isplitl [HT]; · iexact HT
    isplitl [HC]; · iexact HC
    isplitl [HP]; · iexact HP
    isplitl [HS]; · iexact HS
    isplitl [HX]; · iexact HX
    isplitl [HO]; · iexact HO
    isplitl [HW]; · iexact HW
    unfold ow
    iexists Wt
    iexact Hw
  iintro %v ⟨H1, H2, H3, H4, H5, H6⟩
  unfold bodyPost Φ₁
  isplitl [H3 H4 H5]
  · iframe
  isplitl [H6]
  · unfold Dat.owesAt Pipeline.owesWithin ow
    icases H6 with ⟨%W', H6⟩
    iexists W'
    isplitr; · ipureintro; exact fun _ _ => Or.inl trivial
    iexact H6
  isplitl [H1]
  · iexists _; isplitr; · (ipureintro; rfl)
    iexact H1
  iexists _; isplitr; · (ipureintro; rfl)
  iexact H2

theorem body_at : (defs₀ (F := F)) .tc cfg0.body (cfg0.bodyArgs t0_0 (cfg0.slots t0_0)) = body F := by
  unfold defs₀
  rfl

set_option maxRecDepth 200000 in
theorem body_obligation (c : Dev nD) : BodyObligation (dats (F := F) m 0 c) (defs₀ (F := F)) 𝒱₀ () Set.univ := fun t => by
  rw [fin_N0 t]
  rw [body_at, bigSep_W0, bigSep_W0]
  simp only [owns_eq]
  exact body_run m c

/-! ## The launch -/

theorem ownFacts : Pipeline.OwnSemFacts cfg0.spec osem where
  isScoped k := by
    rcases k with ⟨a, i⟩ | ⟨s, h⟩
    · revert a i; decide +kernel
    · revert s h; decide +kernel
  inj := osem_inj
  disj k w s := by
    have h1 : ∀ k : Own, ∀ q : DmaSem sig, q.val < 2 → osem k ≠ .dma q := fun k q hq e => by
      rcases k with ⟨a, i⟩ | ⟨s, h⟩
      · have : semBase a + i.val = q.val := congrArg Fin.val (SemLoc.dma.inj e)
        fin_cases a <;> simp [semBase] at this <;> omega
      · have : 66 + 2 * s.val + h.val = q.val := congrArg Fin.val (SemLoc.dma.inj e)
        omega
    exact h1 k _ (by revert s w; decide +kernel)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HW, Hlev, Hcr, -, HG⟩
  ihave Hc := (creds (F := F) c) $$ Hcr
  imodintro
  unfold start
  isplitl
  · isplitl [HG]; · iexact HG
    isplitl [Hlev]; · iexact Hlev
    isplitl [Hc]; · iexact Hc
    iexact HW
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scratch
  iintro ⟨Hs, -, Hr⟩
  isplitl [Hs]; · iexact Hs
  iexact Hr

def left (c : Dev nD) : sProp 𝕄 := iprop((lW c ↦{fullShare} W m c) ∗ unscopedSems0 c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ Scratch left
  rw [sems_eq]
  iintro ⟨Hr, HW, Hu, Ho⟩
  isplitl [HW Hu]
  · isplitl [HW]; · iexact HW
    iexact Hu
  isplitl [Ho]; · iexact Ho
  iexact Hr

theorem lv_stage (c : Dev nD) (q : DmaSem sig) (hq : q.val < 2) : lv ((c : Thread nD τ), .dma q) () = 0 := by
  unfold lv kindOf
  rw [dif_neg]
  · rfl
  · rintro ⟨k | ⟨a, i⟩ | ⟨s, h⟩, e⟩
    · cases e
    · have : semBase a + i.val = q.val := congrArg Fin.val (SemLoc.dma.inj e)
      fin_cases a <;> simp [semBase] at this <;> omega
    · have : 66 + 2 * s.val + h.val = q.val := congrArg Fin.val (SemLoc.dma.inj e)
      omega

theorem above_O₀ (c : Dev nD) : Above 0 (O₀ c) :=
  (above_OB c 1).add (((above_OR c 1).mono (Nat.zero_le _)).add ((above_OA c 1).mono (Nat.zero_le _)))

theorem waits (c : Dev nD) : (levAts L lv : sProp 𝕄) ⊢ Pipeline.cellsWaits cfgs (dats m) () 0 c :=
  Pipeline.cellsWaits_intro cfgs (dats m) () 0 c fun w s t =>
    mayWait_of c _ (by
      rw [lv_stage c _ (by revert s w; decide +kernel)]
      rcases t with ⟨_ | _, ht⟩
      · exact above_O₀ c
      · exact Above.zero 0)

def finalA (c : Dev nD) (w : Fin cfg0.W) : Buf (Elt F) ((cfg0.win w).arr.view.loc (c : Thread nD τ)) := (dats m 0 c).arrAt w cfg0.N

theorem keep_w (c : Dev nD) (s' : Phys nD τ sig (Elt F)) :
    iprop((lW c ↦{fullShare} W m c : sProp 𝕄) ∗ SI s') ⊢ iprop(⌜s'.mem.mem (lW c) = m (lW c)⌝ ∗ SI s') := by
  iintro ⟨H, HSI⟩
  icombine HSI H gives %h
  isplitr
  · ipureintro; exact Buf.eq_of_forall_mem_univ h
  · iexact HSI

/-- On every device the windows' arrays end as the point leaves them and `w` as it was. -/
def QC : PUnit × MemSt nD τ sig (Elt F) → Prop := fun r =>
  ∀ c : Dev nD, (∀ w : Fin cfg0.W, r.2.mem ((cfg0.win w).arr.view.loc (c : Thread nD τ)) = finalA m c w) ∧ r.2.mem (lW c) = m (lW c)

set_option maxRecDepth 200000 in
theorem run_arrays : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := fun c s => s.mem (lW c) = m (lW c) ∧ ∀ sm : SemLoc sig, sm.isScoped .tc = false → s.sem ((c.tc : Thread nD τ), sm) = 0)
    (hY := fun c s' => by
      unfold left
      iintro ⟨⟨HW, Hu⟩, -, HSI⟩
      ihave H := (keep_w m c s') $$ [HW HSI]
      · isplitl [HW] <;> iassumption
      icases H with ⟨%hw, HSI⟩
      imod (Pipeline.unscopedSems0_read (X := unscopedSems0 c) (c := c) fupd_intro s') $$ [Hu HSI] with H
      · isplitl [Hu] <;> iassumption
      icases H with ⟨%hs, HSI⟩
      imodintro
      isplitr
      · ipureintro; exact ⟨hw, hs⟩
      iexact HSI)
    (hQ := fun _ h hs => ⟨fun c => ⟨fun w => (h c).1 w, (h c).2.2.1⟩, sem_eq_zero hs fun c => (h c).2.2.2⟩)

/-! ## What is left in memory -/

theorem final_x (c : Dev nD) : finalA m c (0 : Fin 2) = m ((c : Thread nD τ).loc main_arg0) :=
  (dats (F := F) m 0 c).arrAt_in (0 : Fin 2) rfl _

set_option maxRecDepth 200000 in
theorem flushed_eq (c : Dev nD) (t : Fin cfg0.N) :
    (dats m 0 c).flushed (1 : Fin 2) t = ((cfg0.win (1 : Fin 2)).blk t).view.read (Elt F) (outF m c : Vec F S128x8192 .f32) := by
  obtain rfl := fin_N0 t
  have ha : (dats m 0 c).after (1 : Fin 2) t0_0 = outF m c := rfl
  unfold Pipeline.Dat.flushed
  rw [ha]
  generalize outF m c = z
  funext i
  show z _ = z _
  congr 1
  funext a
  apply Fin.ext
  match a with
  | ⟨0, _⟩ =>
    show (i 0).val = 0 * 128 + 1 * (i 0).val
    omega
  | ⟨1, _⟩ =>
    show (i 1).val = 0 * 8192 + 1 * (i 1).val
    omega

theorem mem_blk (i : S128x8192.Idx) : i ∈ ((cfg0.win (1 : Fin 2)).blk t0_0).view.set := by
  show i ∈ ((View.whole main_v1).slice (win0_1.rect t0_0)).set
  rw [View.set_slice_whole, Rect.mem_set_unit]
  have e : ∀ a, win0_1.index t0_0 a * win0_1.size a = 0 ∧ win0_1.xsize (grid0.coords t0_0) a = S128x8192.size a := by decide +kernel
  intro a
  show win0_1.index t0_0 a * win0_1.size a ≤ (i a : Nat) ∧ (i a : Nat) < win0_1.index t0_0 a * win0_1.size a + win0_1.xsize (grid0.coords t0_0) a
  rw [(e a).1, (e a).2]
  have := (i a).isLt
  omega

theorem final_o (c : Dev nD) : finalA m c (1 : Fin 2) = outF m c :=
  (dats m 0 c).arrAt_eq_of_cover (1 : Fin 2) (outF m c) (fun t _ => flushed_eq m c t) fun i => ⟨t0_0, flush0_1 _, mem_blk i⟩

/-- The whole run: on every device the arguments are kept and the result array holds `outF`; every counter ends at zero. -/
theorem run_main : θ_run defs (onTc (τ := τ) (main (F := F))) ⟨m, fun _ => 0, ρ⟩ (fun r =>
    (∀ c : Dev nD, r.2.mem ((c.tc : Thread nD τ).loc main_v1) = outF m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨((h.1 c).1 (1 : Fin 2)).trans (final_o m c), ((h.1 c).1 (0 : Fin 2)).trans (final_x m c), (h.1 c).2⟩, h.2⟩)
    (run_arrays m ρ)

end Run

end Cert.K01

end
-- ==== Proof.Prod.lean ====
/- The kernel's product in exact arithmetic: after the 32 steps a device holds its rows of `x` times `w`. -/
module

public import proofs.«01_k».proof.Proof.Base
public import Idealize.ShloMosaic.Lib.MatmulPlain
public import Idealize.ShloMosaic.Lib.ValueIdx
public import Idealize.ShloMosaic.Lib.Pipeline.Value

@[expose] public section

set_option maxRecDepth 16384

noncomputable section

namespace Cert.K01

open Idealize.ShloMosaic.ValueIdx

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

section Prod

variable (m : (ℓ : Loc nD τ sig) → Buf (Elt Ideal) ℓ)

/-- The block a device is launched with is its whole argument. -/
theorem X_apply (c : Dev nD) (i : S4096x128.Idx) : X (F := Ideal) m c i = m ((c : Thread nD τ).loc main_arg0) i := by
  show m ((c : Thread nD τ).loc main_arg0) _ = m ((c : Thread nD τ).loc main_arg0) i
  congr 1
  funext a
  apply Fin.ext
  match a with
  | ⟨0, _⟩ =>
    show 0 * 4096 + 1 * (i 0).val = (i 0).val
    omega
  | ⟨1, _⟩ =>
    show 0 * 128 + 1 * (i 1).val = (i 1).val
    omega

theorem XS_apply (c : Dev nD) (i : S4096x128.Idx) : XS (F := Ideal) m c i = m ((c : Thread nD τ).loc main_arg0) i := by
  unfold XS k0_pay1
  rw [shapeCast_self, truncf_apply, shapeCast_self, X_apply]

/-- One step's product, by coordinates. -/
theorem pay2_apply (a : Vec Ideal S128x128 .bf16) (b : Vec Ideal S1x128x8192 .f32) (r : Fin 128) (n : Fin 8192) :
    k0_pay2 (F := Ideal) a b (ix2 r n) = ∑ l : Fin 128, (a (ix2 r l) : EReal) * b (ix3 (0 : Fin 1) l n) := by
  unfold k0_pay2
  refine (Ideal.matmul_plain_apply none _ _ _ r n).trans ?_
  rw [constant_apply, Ideal.ofBits_zero_f32, zero_add]
  refine Finset.sum_congr rfl fun l _ => ?_
  congr 1
  rw [truncf_apply]
  refine (shapeCast_dropUnit_apply _ _ _ _).trans ?_
  congr 1
  funext p
  fin_cases p <;> rfl

theorem gemm_apply (a : Vec Ideal S1x128x128 .bf16) (b : Vec Ideal S1x128x8192 .f32) (o : Vec Ideal S128x8192 .f32) (r : Fin 128) (n : Fin 8192) :
    gemm (F := Ideal) a b o (ix2 r n) = (o (ix2 r n) : EReal) + ∑ l : Fin 128, (a (ix3 (0 : Fin 1) r l) : EReal) * b (ix3 (0 : Fin 1) l n) := by
  unfold gemm k0_pay6
  rw [addf_apply, shapeCast_self]
  congr 1
  refine (Ideal.matmul_plain_apply none _ _ _ r n).trans ?_
  rw [constant_apply, Ideal.ofBits_zero_f32, zero_add]
  refine Finset.sum_congr rfl fun l _ => ?_
  congr 1
  · refine (shapeCast_dropUnit_apply _ _ _ _).trans ?_
    congr 1
    funext p
    fin_cases p <;> rfl
  · rw [truncf_apply]
    refine (shapeCast_dropUnit_apply _ _ _ _).trans ?_
    congr 1
    funext p
    fin_cases p <;> rfl

end Prod

/-- The rows `128 c …` of the product restricted to the inner indices `128 j …`. -/
def part (x : (⟨2, ![4096, 4096]⟩ : Shape).Idx → EReal) (w : (⟨2, ![4096, 8192]⟩ : Shape).Idx → EReal) (R : Fin 4096) (n : Fin 8192) (j : Fin 32) : EReal :=
  ∑ l : Fin 128, x (ix2 R (finProdFinEquiv (j, l) : Fin 4096)) * w (ix2 (finProdFinEquiv (j, l) : Fin 4096) n)

/-- The parts add up to the whole product. -/
theorem sum_part (x w) (R : Fin 4096) (n : Fin 8192) :
    ∑ j : Fin 32, part x w R n j = ∑ k : Fin 4096, (x (ix2 R k) : EReal) * w (ix2 k n) := by
  unfold part
  rw [← Finset.sum_product', Finset.univ_product_univ]
  exact Equiv.sum_comp (finProdFinEquiv (m := 32) (n := 128)) fun k : Fin 4096 => (x (ix2 R k) : EReal) * w (ix2 k n)

/-- Going back around the ring visits every device once. -/
theorem sum_bwd (c : Dev nD) (f : Dev nD → EReal) : ∑ k ∈ Finset.range 32, f (bwd c k) = ∑ j, f j := by
  refine Finset.sum_nbij (fun k => bwd c k) (fun _ _ => Finset.mem_univ _) ?_ ?_ fun _ _ => rfl
  · intro a ha b hb e
    have e := congrArg Fin.val e
    simp only [bwd_val] at e
    have := dev_lt c
    have ha := Finset.mem_range.1 (Finset.mem_coe.1 ha)
    have hb := Finset.mem_range.1 (Finset.mem_coe.1 hb)
    omega
  · intro j _
    have := dev_lt c
    have := dev_lt j
    refine ⟨(c.val + (32 - j.val)) % 32, Finset.mem_coe.2 (Finset.mem_range.2 (Nat.mod_lt _ (by decide))), Fin.ext ?_⟩
    rw [bwd_val]
    omega

section Out

variable (m : (ℓ : Loc nD τ sig) → Buf (Elt Ideal) ℓ)
variable (x : (⟨2, ![4096, 4096]⟩ : Shape).Idx → EReal) (w : (⟨2, ![4096, 8192]⟩ : Shape).Idx → EReal)

/-- What the claim says of the launch: each device has its columns of `x`, and all of `w`. -/
structure Holds : Prop where
  x : ∀ (c : Dev nD) (R : Fin 4096) (l : Fin 128), m ((c : Thread nD τ).loc main_arg0) (ix2 R l) = x (ix2 R (finProdFinEquiv ((c : Fin 32), l) : Fin 4096))
  w : ∀ c : Dev nD, m (lW c) = w

variable {m x w}

/-- Row `r` of device `c`'s block is this row of the whole. -/
def row (c : Dev nD) (r : Fin 128) : Fin 4096 := ⟨128 * c.val + r.val, by have := dev_lt c; omega⟩

theorem xRow_apply (h : Holds m x w) (c j : Dev nD) (r l : Fin 128) :
    (xRow m c j (ix3 (0 : Fin 1) r l) : EReal) = x (ix2 (row c r) (finProdFinEquiv ((j : Fin 32), l) : Fin 4096)) :=
  (XS_apply m j _).trans (h.x j (row c r) l)

theorem xOwn_apply (h : Holds m x w) (c : Dev nD) (r l : Fin 128) :
    (xOwn m c (ix2 r l) : EReal) = x (ix2 (row c r) (finProdFinEquiv ((c : Fin 32), l) : Fin 4096)) :=
  (XS_apply m c _).trans (h.x c (row c r) l)

theorem wBlk_apply (h : Holds m x w) (c j : Dev nD) (l : Fin 128) (n : Fin 8192) :
    (wBlk m c j (ix3 (0 : Fin 1) l n) : EReal) = w (ix2 (finProdFinEquiv ((j : Fin 32), l) : Fin 4096) n) := by
  have e : ∀ k : Fin 4096, k.val = 128 * j.val + l.val → (W m c (ix2 k n) : EReal) = w (ix2 (finProdFinEquiv ((j : Fin 32), l) : Fin 4096) n) := by
    intro k hk
    unfold W
    rw [h.w c]
    congr 2
    apply Fin.ext
    rw [hk]
    show 128 * j.val + l.val = l.val + 128 * j.val
    omega
  exact e _ rfl

/-- After step `k` the sum of the parts of the devices visited so far. -/
theorem out_apply (h : Holds m x w) (c : Dev nD) (r : Fin 128) (n : Fin 8192) (k : ℕ) :
    (out m c k (ix2 r n) : EReal) = ∑ i ∈ Finset.range (k + 1), part x w (row c r) n (bwd c i) := by
  induction k with
  | zero =>
    rw [Finset.sum_range_one]
    have e : bwd c 0 = c := Fin.ext (by rw [bwd_val]; have := dev_lt c; omega)
    refine (pay2_apply _ _ r n).trans (Finset.sum_congr rfl fun l _ => ?_)
    rw [xOwn_apply h, wBlk_apply h, e]
  | succ k ih =>
    rw [Finset.sum_range_succ, ← ih]
    refine (gemm_apply _ _ _ r n).trans (congrArg _ (Finset.sum_congr rfl fun l _ => ?_))
    rw [xRow_apply h, wBlk_apply h]

/-- The whole product. -/
def whole (x : (⟨2, ![4096, 4096]⟩ : Shape).Idx → EReal) (w : (⟨2, ![4096, 8192]⟩ : Shape).Idx → EReal) (R : Fin 4096) (n : Fin 8192) : EReal :=
  ∑ k : Fin 4096, x (ix2 R k) * w (ix2 k n)

/-- After the last step a device holds its rows of the product. -/
theorem out_last (h : Holds m x w) (c : Dev nD) (r : Fin 128) (n : Fin 8192) : (out m c 31 (ix2 r n) : EReal) = whole x w (row c r) n :=
  (out_apply h c r n 31).trans ((sum_bwd c _).trans (sum_part x w _ n))

end Out

end Cert.K01

end
-- ==== Proof.Peak.lean ====
/- The largest absolute value and the scaled result, in exact arithmetic. -/
module

public import proofs.«01_k».proof.Proof.Prod
public import proofs.«01_k».proof.Proof.Phase
public import Idealize.ShloMosaic.PureOps.Reduce
public import Idealize.ShloMosaic.PureOps.Ideal.Laws

@[expose] public section

set_option maxRecDepth 16384

noncomputable section

namespace Cert.K01

open Idealize.ShloMosaic.ValueIdx

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

theorem negInf : Ideal.ofBits .f32 0xFF800000#32 = (⊥ : EReal) := by simp [Ideal.ofBits, Ideal.ieee]

theorem top448 : Ideal.ofBits .f32 0x43E00000#32 = ((448 : ℝ) : EReal) := by
  simp [Ideal.ofBits, Ideal.ieee, -EReal.coe_mul]
  norm_num

/-- A maximum over every element is bounded by `b` when every element is. -/
theorem multiReduction_le {s t : Shape} {axes : List (Fin s.rank)} (src : FVec Ideal s .f32) (h : s.Reduces axes t) (hφ) (hacc) (j : t.Idx)
    (one : ∀ i : s.Idx, h.drop i = j) (b : EReal) :
    (multiReduction .maximumf axes t src 0xFF800000#32 h hφ hacc j : EReal) ≤ b ↔ ∀ i, (src i : EReal) ≤ b := by
  rw [multiReduction_maximumf_eq_fold]
  have e : (Finset.univ.filter fun i => h.drop i = j) = Finset.univ := Finset.filter_true_of_mem fun i _ => one i
  rw [e]
  show (Finset.univ.fold max (Ideal.ofBits .f32 0xFF800000#32) src : EReal) ≤ b ↔ _
  rw [Finset.fold_max_le, negInf]
  exact ⟨fun h i => h.2 i (Finset.mem_univ i), fun h => ⟨bot_le, fun i _ => h i⟩⟩

/-- The same on the host. -/
theorem hostReduce_le {s t u : Shape} {axes : List (Fin s.rank)} (src : FVec Ideal s .f32) (init : FVec Ideal u .f32) (h : s.ReducesTo axes t)
    (hu : 0 < u.numel) (j : t.Idx) (one : ∀ i : s.Idx, h.drop i = j) (hi : ∀ i, (init i : EReal) = ⊥) (b : EReal) :
    (Host.reduce (FloatOps.maximumf (F := Ideal) (φ := .f32)) src init h hu j : EReal) ≤ b ↔ ∀ i, (src i : EReal) ≤ b := by
  rw [Host.reduce_eq_fold]
  have e : (Finset.univ.filter fun i => h.drop i = j) = Finset.univ := Finset.filter_true_of_mem fun i _ => one i
  rw [e]
  show (Finset.univ.fold max (init _) src : EReal) ≤ b ↔ _
  rw [Finset.fold_max_le, hi]
  exact ⟨fun h i => h.2 i (Finset.mem_univ i), fun h => ⟨bot_le, fun i _ => h i⟩⟩

/-- A statement about every element holds of a reshaped vector when it holds of the vector. -/
theorem shapeCast_forall {s t : Shape} {α : Type} (x : s.Idx → α) (h : s.ShapeCasts t) (P : α → Prop) :
    (∀ i, P (shapeCast t x h i)) ↔ ∀ i, P (x i) :=
  ⟨fun e i => by
    have e := e ((Shape.reshapeEquiv h).symm i)
    unfold shapeCast at e
    rwa [Equiv.apply_symm_apply] at e, fun e _ => e _⟩

/-- A shape of one element has one index. -/
theorem oneIdx (i j : S1.Idx) : i = j := by
  funext a
  match a with
  | ⟨0, _⟩ => exact Fin.ext (by have := (i 0).isLt; have := (j 0).isLt; change (i 0).val < 1 at *; change (j 0).val < 1 at *; show (i 0).val = (j 0).val; omega)

theorem ofBits_scalar (b : BitVec 32) : (Scalar.ofBits .f32 b : Ideal .f32) = Ideal.ofBits .f32 b := rfl

section Peak

variable {m : (ℓ : Loc nD τ sig) → Buf (Elt Ideal) ℓ}

/-- A device's own maximum bounds exactly its own elements. -/
theorem own_le (v : Vec Ideal S128x8192 .f32) (b : EReal) : (k0_pay40 (F := Ideal) v : EReal) ≤ b ↔ ∀ i, (FloatOps.absf (F := Ideal) (φ := .f32) (v i) : EReal) ≤ b := by
  unfold k0_pay40 extractAt
  refine Iff.trans (multiReduction_le (shapeCast S1x128x8192 (absf (shapeCast S128x8192 v shapeCasts_S128x8192_S128x8192)) shapeCasts_S128x8192_S1x128x8192)
    reduces_S1x128x8192_S1 (.inl rfl) rfl _ (fun i => oneIdx _ _) b) ?_
  refine (shapeCast_forall (α := Ideal .f32) (absf (shapeCast S128x8192 v shapeCasts_S128x8192_S128x8192)) shapeCasts_S128x8192_S1x128x8192
    (fun z => (z : EReal) ≤ b)).trans ?_
  rw [shapeCast_self]
  rfl

/-- The largest of the devices' maxima. -/
def rest (src : FVec Ideal S32x8x128 .f32) : Ideal .f32 :=
  extractAt ![0, 0, 0, 0] (shapeCast S1x1x1x1 (multiReduction .maximumf [1, 2, 3] S1
    (shapeCast S1x32x8x128 src shapeCasts_S32x8x128_S1x32x8x128)
    0xFF800000#32 reduces_S1x32x8x128_S1 (.inl rfl) rfl) shapeCasts_S1_S1x1x1x1) inpos_S1x1x1x1_p0_0_0_0

theorem rest_le (src : FVec Ideal S32x8x128 .f32) (b : EReal) : (rest src : EReal) ≤ b ↔ ∀ i, (src i : EReal) ≤ b := by
  unfold rest extractAt
  refine Iff.trans (multiReduction_le (shapeCast S1x32x8x128 src shapeCasts_S32x8x128_S1x32x8x128) reduces_S1x32x8x128_S1 (.inl rfl) rfl _
    (fun i => oneIdx _ _) b) ?_
  exact shapeCast_forall (α := Ideal .f32) src shapeCasts_S32x8x128_S1x32x8x128 (fun z => (z : EReal) ≤ b)

/-- The maximum a device scales by: over the others' maxima, its own row masked out, and its own. -/
def peak (own : Ideal .f32) (mask : IVec S32x8x128 1) (all : Vec Ideal S32x8x128 .f32) : Ideal .f32 :=
  Scalar.maximumf (rest (select mask (broadcast S32x8x128 (Scalar.ofBits .f32 0xFF800000#32)) all)) own

theorem pay43_apply (own : Ideal .f32) (mask : IVec S32x8x128 1) (all : Vec Ideal S32x8x128 .f32) (v : Vec Ideal S128x8192 .f32) (i : S128x8192.Idx) :
    (k0_pay43 (F := Ideal) own mask all v i : EReal) =
      min (Ideal.ofBits .f32 0x43E00000#32) (max (Ideal.ofBits .f32 0xC3E00000#32) ((v i : EReal) * Ideal.div (Ideal.ofBits .f32 0x43E00000#32) (peak own mask all)))
        * Ideal.div (peak own mask all) (Ideal.ofBits .f32 0x43E00000#32) := by
  unfold k0_pay43
  rw [shapeCast_self, mulf_apply, extf_apply, truncf_apply, minimumf_apply, maximumf_apply, mulf_apply, broadcast_apply, broadcast_apply, broadcast_apply,
    broadcast_apply, Ideal.scalar_divf_def, Ideal.scalar_divf_def, ofBits_scalar, ofBits_scalar]
  unfold peak rest
  with_reducible rfl

theorem peak_le_of (f : Dev nD → Ideal .f32) (mask : IVec S32x8x128 1) (c : Dev nD)
    (hm : ∀ y : S32x8x128.Idx, mask y = if (⟨(y 0).val, (y 0).isLt⟩ : Dev nD) = c then 1#1 else 0#1) (b : EReal) :
    (peak (f c) mask (fun y => f ⟨(y 0).val, (y 0).isLt⟩) : EReal) ≤ b ↔ ∀ j : Dev nD, (f j : EReal) ≤ b := by
  unfold peak
  rw [Ideal.scalar_maximumf_def, max_le_iff, rest_le]
  refine ⟨fun h j => ?_, fun h => ⟨fun i => ?_, h c⟩⟩
  · by_cases hj : j = c
    · rw [hj]; exact h.2
    · have h := h.1 (ix3 (j : Fin 32) (0 : Fin 8) (0 : Fin 128))
      rw [select_apply, hm, if_neg hj] at h
      exact h
  · rw [select_apply, hm]
    by_cases hj : (⟨(i 0).val, (i 0).isLt⟩ : Dev nD) = c
    · rw [if_pos hj]
      exact le_of_eq_of_le negInf bot_le
    · rw [if_neg hj]
      exact h _

/-- So the maximum scaled by bounds exactly every device's own. -/
theorem peak_le (c : Dev nD) (b : EReal) :
    (peak (AM m c) (k0_pay42 (Scalar.remsi (Scalar.divsi (Dev.word c) 1#32) 32#32)) (AA m) : EReal) ≤ b ↔ ∀ j : Dev nD, (AM m j : EReal) ≤ b :=
  peak_le_of (AM m) _ c (mask_apply c) b

end Peak

/-- Multiplying by `448 / g` and dividing by `g / 448` come to the same once scaled back by `g / 448`. -/
theorem scaled (o g lo : EReal) :
    min ((448 : ℝ) : EReal) (max lo (o * Ideal.div ((448 : ℝ) : EReal) g)) * Ideal.div g ((448 : ℝ) : EReal)
      = min ((448 : ℝ) : EReal) (max lo (Ideal.div o (Ideal.div g ((448 : ℝ) : EReal)))) * Ideal.div g ((448 : ℝ) : EReal) := by
  have h0 : ((448 : ℝ) : EReal) ≠ 0 := by norm_num
  have hd : Ideal.div g ((448 : ℝ) : EReal) = g * ((448 : ℝ) : EReal)⁻¹ := by unfold Ideal.div; rw [if_neg h0]
  by_cases hg : g = 0
  · rw [hd, hg, zero_mul, mul_zero, mul_zero]
  · have hi : ((448 : ℝ) : EReal)⁻¹ = ((448⁻¹ : ℝ) : EReal) := (EReal.coe_inv _).symm
    have h1 : ((448 : ℝ) : EReal)⁻¹ ≠ 0 := by rw [hi]; norm_num
    have hp : g * ((448 : ℝ) : EReal)⁻¹ ≠ 0 := mul_ne_zero hg h1
    rw [hd]
    congr 3
    unfold Ideal.div
    rw [if_neg hg, if_neg hp, EReal.mul_inv, EReal.inv_inv (EReal.coe_ne_bot _) (EReal.coe_ne_top _), mul_comm ((448 : ℝ) : EReal)]

end Cert.K01

end
-- ==== Proof.RefValue.lean ====
/- What the reference leaves, element by element, in exact arithmetic. -/
module

public import proofs.«01_k».proof.Proof.Gen.ReferenceIdeal.Value
public import Idealize.ShloMosaic.Lib.StableHlo.Run
public import Idealize.ShloMosaic.Lib.ValueIdx
public import Idealize.ShloMosaic.Lib.IdealHost
public import Idealize.ShloMosaic.Lib.MatmulPlain
public import Idealize.ShloMosaic.PureOps.Ideal.Laws

@[expose] public section

noncomputable section

namespace Cert.K01.Ref

open Cert.ReferenceIdeal Cert.ReferenceIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ)

/-- The product. -/
def prod (c : Dev nD) : FVec Ideal S4096x8192 .f32 :=
  Host.dotGeneral (φ₁ := .f32) (φ₂ := .f32) dot_S4096x4096_S4096x8192_S4096x8192_1_0_0_1_n_n none
    (m ((c : Thread nD τ).loc main_arg0) : FVec Ideal S4096x4096 .f32) (m ((c : Thread nD τ).loc main_arg1) : FVec Ideal S4096x8192 .f32)

/-- Its largest absolute value. -/
def top (c : Dev nD) : FVec Ideal S_ .f32 :=
  Host.reduce FloatOps.maximumf (Host.absf (prod m c)) (constant S_ .f32 0xFF800000#32) reducesTo_S4096x8192_S_d0_1 h_S_

theorem V_v0 (c : Dev nD) : V m c main_v0 = prod m c := by
  unfold_abbrev_sides
  after_results
  rfl

theorem V_v4 (c : Dev nD) : V m c main_v4 = shapeCast S1x1 (Host.divf (top m c) (constant S_ .f32 0x43E00000#32)) shapeCasts_S_S1x1 := by
  unfold_abbrev_sides
  after_results
  rfl

theorem blk0 (c : Dev nD) (t : Fin cfg0.N) (i : S4096x8192.Idx) : iblk m c 0 t i = V m c main_v0 i := by
  unfold iblk
  generalize V m c = z
  show z main_v0 _ = z main_v0 i
  congr 1
  funext a
  apply Fin.ext
  match a with
  | ⟨0, _⟩ =>
    show 0 * 4096 + 1 * (i 0).val = (i 0).val
    omega
  | ⟨1, _⟩ =>
    show 0 * 8192 + 1 * (i 1).val = (i 1).val
    omega

theorem blk1 (c : Dev nD) (t : Fin cfg0.N) (i : S1x1.Idx) : iblk m c 1 t i = V m c main_v4 i := by
  unfold iblk
  generalize V m c = z
  show z main_v4 _ = z main_v4 i
  congr 1
  funext a
  apply Fin.ext
  match a with
  | ⟨0, _⟩ =>
    show 0 * 1 + 1 * (i 0).val = (i 0).val
    omega
  | ⟨1, _⟩ =>
    show 0 * 1 + 1 * (i 1).val = (i 1).val
    omega

theorem cut_apply (t : Fin cfg0.N) (v : Vec Ideal S4096x8192 .f32) (i : S4096x8192.Idx) : (cfg0.win 2).cut (grid0.coords t) v i = v i := by
  rfl

theorem final (c : Dev nD) (i : S4096x8192.Idx) :
    (dats m 0 c).arrAt 2 cfg0.N i = out0_2 (iblk m c 0 (0 : Fin 1)) (iblk m c 1 (0 : Fin 1)) i := by
  have h := (Cert.ReferenceIdeal.Value.blocks2 m c (0 : Fin 1) (by decide)).trans (Cert.ReferenceIdeal.Value.flushed2 m c (0 : Fin 1))
  have h := congrFun h i
  refine Eq.trans ?_ (h.trans (cut_apply _ _ i))
  generalize (dats m 0 c).arrAt 2 cfg0.N = z
  show z i = z _
  refine congrArg z ?_
  funext a
  apply Fin.ext
  match a with
  | ⟨0, _⟩ =>
    show (i 0).val = 0 * 4096 + 1 * (i 0).val
    omega
  | ⟨1, _⟩ =>
    show (i 1).val = 0 * 8192 + 1 * (i 1).val
    omega

theorem ofBits_scalar (b : BitVec 32) : (Scalar.ofBits .f32 b : Ideal .f32) = Ideal.ofBits .f32 b := rfl

theorem pay1_apply (s : Vec Ideal S1x1 .f32) (v : Vec Ideal S4096x8192 .f32) (i : S4096x8192.Idx) (z : EReal) (hs : ∀ j, s j = z) :
    (k0_pay1 (F := Ideal) s v i : EReal) =
      min (Ideal.ofBits .f32 0x43E00000#32) (max (Ideal.ofBits .f32 0xC3E00000#32) (Ideal.div (v i : EReal) z)) * z := by
  unfold k0_pay1 extractAt
  rw [shapeCast_self, mulf_apply, extf_apply, truncf_apply, minimumf_apply, maximumf_apply, divf_apply, broadcast_apply, broadcast_apply, broadcast_apply,
    ofBits_scalar, ofBits_scalar, hs]

end Cert.K01.Ref

end
-- ==== Proof.Value.lean ====
/- The kernel's result and the reference's are the same in exact arithmetic. -/
module

public import proofs.«01_k».proof.Proof.Peak
public import proofs.«01_k».proof.Proof.RefValue
public import Idealize.ShloMosaic.Lib.StackMember
public import Idealize.ShloMosaic.Lib.Layout

@[expose] public section

noncomputable section

namespace Cert.K01

open Idealize.ShloMosaic Idealize.ShloMosaic.TcCoe Idealize.SL.Sem
open Idealize.ShloMosaic.ValueIdx

/-! ## The reference -/

namespace Ref

open Cert.ReferenceIdeal Cert.ReferenceIdeal.Gen

variable (m : (ℓ : Loc nD τ sig) → Buf (Elt Ideal) ℓ)

theorem prod_apply (c : Dev nD) (R : Fin 4096) (n : Fin 8192) :
    (prod m c (ix2 R n) : EReal) = whole (m ((c : Thread nD τ).loc main_arg0)) (m ((c : Thread nD τ).loc main_arg1)) R n :=
  StackMember.dotGeneral_plain_apply none _ _ R n

theorem top_le (c : Dev nD) (j : S_.Idx) (b : EReal) :
    (top m c j : EReal) ≤ b ↔ ∀ i, (FloatOps.absf (F := Ideal) (φ := .f32) (prod m c i) : EReal) ≤ b :=
  hostReduce_le (Host.absf (prod m c)) (constant S_ .f32 0xFF800000#32) reducesTo_S4096x8192_S_d0_1 h_S_ j
    (fun i => funext fun a => a.elim0) (fun i => negInf) b

/-- The largest absolute value, as a number. -/
def topV (c : Dev nD) : EReal := top m c (Shape.Idx.first h_S_)

theorem out_apply (x0 : Vec Ideal S4096x8192 .f32) (x1 : Vec Ideal S1x1 .f32) : out0_2 x0 x1 = k0_pay1 x1 x0 := by
  have e : (![0, 0] : Fin 2 → ℕ) = fun _ => 0 := by decide
  unfold out0_2
  rw [View.canon_unit_zero e, View.ld_unit_zero e, View.ld_unit_zero e]

/-- The reference's result, by coordinates. -/
theorem final_apply (c : Dev nD) (i : S4096x8192.Idx) :
    ((dats m 0 c).arrAt 2 cfg0.N i : EReal) =
      min (Ideal.ofBits .f32 0x43E00000#32) (max (Ideal.ofBits .f32 0xC3E00000#32)
        (Ideal.div (prod m c i : EReal) (Ideal.div (topV m c) (Ideal.ofBits .f32 0x43E00000#32)))) * Ideal.div (topV m c) (Ideal.ofBits .f32 0x43E00000#32) := by
  rw [final, out_apply]
  refine (pay1_apply _ _ i (Ideal.div (topV m c) (Ideal.ofBits .f32 0x43E00000#32)) fun j => ?_).trans ?_
  · refine (blk1 m c (0 : Fin 1) j).trans ((congrFun (V_v4 m c) j).trans ?_)
    unfold shapeCast
    rw [hostDivf_apply, constant_apply]
    unfold topV
    congr 2
    exact funext fun a => a.elim0
  · rw [show (iblk m c 0 (0 : Fin 1) i : EReal) = prod m c i from (blk0 m c (0 : Fin 1) i).trans (congrFun (V_v0 m c) i)]

end Ref

/-! ## The two results -/

section Both

variable {m : (ℓ : Loc Cert.KernelIdeal.nD Cert.KernelIdeal.τ Cert.KernelIdeal.sig) → Buf (Elt Ideal) ℓ}
variable {m' : (ℓ : Loc Cert.ReferenceIdeal.nD Cert.ReferenceIdeal.τ Cert.ReferenceIdeal.sig) → Buf (Elt Ideal) ℓ}

/-- The reference's arguments. -/
abbrev refX (m' : (ℓ : Loc Cert.ReferenceIdeal.nD Cert.ReferenceIdeal.τ Cert.ReferenceIdeal.sig) → Buf (Elt Ideal) ℓ) :=
  m' (((0 : Dev Cert.ReferenceIdeal.nD) : Thread Cert.ReferenceIdeal.nD Cert.ReferenceIdeal.τ).loc Cert.ReferenceIdeal.main_arg0)
abbrev refW (m' : (ℓ : Loc Cert.ReferenceIdeal.nD Cert.ReferenceIdeal.τ Cert.ReferenceIdeal.sig) → Buf (Elt Ideal) ℓ) :=
  m' (((0 : Dev Cert.ReferenceIdeal.nD) : Thread Cert.ReferenceIdeal.nD Cert.ReferenceIdeal.τ).loc Cert.ReferenceIdeal.main_arg1)

/-- A device's element is the product's at its row. -/
theorem out_prod (h : Holds m (refX m') (refW m')) (c : Dev Cert.KernelIdeal.nD) (r : Fin 128) (n : Fin 8192) :
    (out m c 31 (ix2 r n) : EReal) = Ref.prod m' 0 (ix2 (row c r) n) :=
  (out_last h c r n).trans (Ref.prod_apply m' 0 (row c r) n).symm

/-- Both scale by the same maximum. -/
theorem peak_eq (h : Holds m (refX m') (refW m')) (c : Dev Cert.KernelIdeal.nD) :
    (peak (AM m c) (Cert.KernelIdeal.Gen.k0_pay42 (Scalar.remsi (Scalar.divsi (Dev.word c) 1#32) 32#32)) (AA m) : EReal) = Ref.topV m' 0 := by
  refine eq_of_forall_ge_iff fun b => ?_
  rw [peak_le]
  unfold Ref.topV
  rw [Ref.top_le]
  have e : ∀ j : Dev Cert.KernelIdeal.nD, (AM m j : EReal) ≤ b ↔ ∀ i, (FloatOps.absf (F := Ideal) (φ := .f32) (out m j 31 i) : EReal) ≤ b := fun j => own_le _ b
  simp only [e]
  constructor
  · intro q i
    have hR : (i 0).val < 4096 := (i 0).isLt
    have hr : (i 0).val % 128 < 128 := Nat.mod_lt _ (by decide)
    obtain ⟨j, hj⟩ : ∃ j : Dev Cert.KernelIdeal.nD, j.val = (i 0).val / 128 := ⟨⟨(i 0).val / 128, show _ < 32 by omega⟩, rfl⟩
    have hi : ix2 (row j (⟨(i 0).val % 128, hr⟩ : Fin 128)) (⟨(i 1).val, (i 1).isLt⟩ : Fin 8192) = i := by
      funext a
      match a with
      | ⟨0, _⟩ =>
        refine Fin.ext ?_
        show 128 * j.val + (i 0).val % 128 = (i 0).val
        omega
      | ⟨1, _⟩ => rfl
    exact le_of_eq_of_le (congrArg _ ((congrArg _ hi.symm).trans (out_prod h j _ _).symm)) (q j (ix2 (⟨(i 0).val % 128, hr⟩ : Fin 128) (⟨(i 1).val, (i 1).isLt⟩ : Fin 8192)))
  · intro q j i
    have hi : ix2 (⟨(i 0).val, (i 0).isLt⟩ : Fin 128) (⟨(i 1).val, (i 1).isLt⟩ : Fin 8192) = i := by
      funext a
      match a with
      | ⟨0, _⟩ => rfl
      | ⟨1, _⟩ => rfl
    exact le_of_eq_of_le (congrArg _ ((congrArg _ hi.symm).trans (out_prod h j _ _))) (q _)

/-- A device's result is its rows of the reference's. -/
theorem result_eq (h : Holds m (refX m') (refW m')) (c : Dev Cert.KernelIdeal.nD) (r : Fin 128) (n : Fin 8192) :
    (outF m c (ix2 r n) : EReal) = (Cert.ReferenceIdeal.Gen.dats m' 0 0).arrAt 2 Cert.ReferenceIdeal.cfg0.N (ix2 (row c r) n) := by
  refine Eq.trans ?_ (Ref.final_apply m' 0 _).symm
  unfold outF
  rw [pay43_apply, peak_eq h, out_prod h, top448, scaled]

end Both

end Cert.K01

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

set_option maxRecDepth 200000 in
/-- The two printed programs have the same body table. -/
theorem defs₀_same {F : FTy → Type} [FloatOps F] : (Cert.Kernel.defs₀ (F := F) : _) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_same {F : FTy → Type} [FloatOps F] : (Cert.Kernel.defs (F := F) : _) = Cert.KernelIdeal.defs (F := F) := by
  show Pipeline.defs Cert.Kernel.pcfgs Cert.Kernel.defs₀ = _
  rw [defs₀_same]
  rfl

set_option maxRecDepth 200000 in
/-- The kernel's run keeps the arguments and ends with every counter at zero. -/
theorem frame_kernel : Cert.quiescent_Kernel := fun m ρ _ => by
  rw [defs_same]
  exact (θ_run Cert.KernelIdeal.defs _ _).mono (fun _ h => ⟨fun c => (h.1 c).2, h.2⟩) (Cert.K01.run_main (F := Bits) m ρ)

/-- The same run in exact arithmetic. -/
theorem frame_kernelIdeal : Cert.quiescent_KernelIdeal := fun m ρ _ =>
  (θ_run Cert.KernelIdeal.defs _ _).mono (fun _ h => ⟨fun c => (h.1 c).2, h.2⟩) (Cert.K01.run_main (F := Ideal) m ρ)

/-- The reference's run keeps the arguments and ends with every counter at zero. -/
theorem frame_reference : Cert.quiescent_ReferenceIdeal := fun m ρ _ => Cert.ReferenceIdeal.Gen.frame m ρ

/-- In exact arithmetic the kernel's blocks are the reference's result, cut by rows. -/
theorem algebraic : Cert.algebraic_KernelIdeal_ReferenceIdeal := fun m g m' g' _ h => by
  have hh : Cert.K01.Holds m (Cert.K01.refX m') (Cert.K01.refW m') := by
    refine ⟨fun c R l => ?_, fun c => (h c).2⟩
    refine (congrFun (h c).1 (ValueIdx.ix2 R l)).trans ((Layout.block_apply c (Cert.K01.refX m') _ _).trans (congrArg (Cert.K01.refX m') ?_))
    funext a
    apply Fin.ext
    match a with
    | ⟨0, _⟩ => rfl
    | ⟨1, _⟩ =>
      show c.val * 128 + l.val = l.val + 128 * c.val
      omega
  refine ⟨(Cert.ReferenceIdeal.Gen.dats m' 0 0).arrAt 2 Cert.ReferenceIdeal.cfg0.N, ?_, ?_⟩
  · refine (θ_run Cert.KernelIdeal.defs _ _).mono (fun _ k c => ⟨((k.1 c).1).trans ?_, (k.1 c).2⟩) (Cert.K01.run_main (F := Ideal) m g)
    funext i
    have hi : ValueIdx.ix2 (⟨(i 0).val, (i 0).isLt⟩ : Fin 128) (⟨(i 1).val, (i 1).isLt⟩ : Fin 8192) = i := by
      funext a
      match a with
      | ⟨0, _⟩ => rfl
      | ⟨1, _⟩ => rfl
    refine (congrArg _ hi.symm).trans ((Cert.K01.result_eq hh c _ _).trans (Eq.trans (congrArg _ ?_) (Layout.block_apply c _ _ i).symm))
    funext a
    apply Fin.ext
    match a with
    | ⟨0, _⟩ =>
      show 128 * c.val + (i 0).val = c.val * 128 + (i 0).val
      omega
    | ⟨1, _⟩ => rfl
  · exact (θ_run Cert.ReferenceIdeal.defs _ _).mono (fun _ k => k 0) (Cert.ReferenceIdeal.Value.run_blocks m' g')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
